-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S10000 : Shape := ⟨1, ![10000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩

abbrev nBuf : Space → Nat
  | .hbm => 147
  | .vmem => 24
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S1x320000, .i32⟩
  | 17 => ⟨S320000, .i32⟩
  | 18 => ⟨S1x320000, .i32⟩
  | 19 => ⟨S320000, .i32⟩
  | 20 => ⟨S10000x128, .f32⟩
  | 21 => ⟨S10000, .f32⟩
  | 22 => ⟨S10000, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000, .f32⟩
  | 41 => ⟨S320000, .f32⟩
  | 42 => ⟨S_, .f32⟩
  | 43 => ⟨S320000, .f32⟩
  | 44 => ⟨S320000, .i1⟩
  | 45 => ⟨S_, .f32⟩
  | 46 => ⟨S320000, .f32⟩
  | 47 => ⟨S320000, .f32⟩
  | 48 => ⟨S320000, .f32⟩
  | 49 => ⟨S320000, .f32⟩
  | 50 => ⟨S_, .f32⟩
  | 51 => ⟨S10000, .f32⟩
  | 52 => ⟨S320000x1, .i32⟩
  | 53 => ⟨S10000, .f32⟩
  | 54 => ⟨S_, .i32⟩
  | 55 => ⟨S320000, .i32⟩
  | 56 => ⟨S320000, .i1⟩
  | 57 => ⟨S_, .i32⟩
  | 58 => ⟨S320000, .i32⟩
  | 59 => ⟨S320000, .i32⟩
  | 60 => ⟨S320000, .i32⟩
  | 61 => ⟨S320000x1, .i32⟩
  | 62 => ⟨S320000, .f32⟩
  | 63 => ⟨S_, .f32⟩
  | 64 => ⟨S320000, .f32⟩
  | 65 => ⟨S320000, .f32⟩
  | 66 => ⟨S320000, .f32⟩
  | 67 => ⟨S320000x1, .f32⟩
  | 68 => ⟨S_, .i32⟩
  | 69 => ⟨S320000, .i32⟩
  | 70 => ⟨S320000, .i1⟩
  | 71 => ⟨S_, .i32⟩
  | 72 => ⟨S320000, .i32⟩
  | 73 => ⟨S320000, .i32⟩
  | 74 => ⟨S320000, .i32⟩
  | 75 => ⟨S320000x1, .i32⟩
  | 76 => ⟨S320000x128, .f32⟩
  | 77 => ⟨S320000x128, .f32⟩
  | 78 => ⟨S320000x128, .f32⟩
  | 79 => ⟨S_, .f32⟩
  | 80 => ⟨S10000x128, .f32⟩
  | 81 => ⟨S320000x1, .i32⟩
  | 82 => ⟨S10000x128, .f32⟩
  | 83 => ⟨S10000x128, .f32⟩
  | 84 => ⟨S10000, .f32⟩
  | 85 => ⟨S10000, .f32⟩
  | 86 => ⟨S_, .i32⟩
  | 87 => ⟨S320000, .i32⟩
  | 88 => ⟨S320000, .i1⟩
  | 89 => ⟨S_, .i32⟩
  | 90 => ⟨S320000, .i32⟩
  | 91 => ⟨S320000, .i32⟩
  | 92 => ⟨S320000, .i32⟩
  | 93 => ⟨S320000x1, .i32⟩
  | 94 => ⟨S320000, .f32⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S320000, .f32⟩
  | 104 => ⟨S320000, .f32⟩
  | 105 => ⟨S_, .f32⟩
  | 106 => ⟨S320000, .f32⟩
  | 107 => ⟨S320000, .i1⟩
  | 108 => ⟨S_, .f32⟩
  | 109 => ⟨S320000, .f32⟩
  | 110 => ⟨S320000, .f32⟩
  | 111 => ⟨S320000, .f32⟩
  | 112 => ⟨S320000, .f32⟩
  | 113 => ⟨S_, .f32⟩
  | 114 => ⟨S10000, .f32⟩
  | 115 => ⟨S320000x1, .i32⟩
  | 116 => ⟨S10000, .f32⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S320000x1, .i32⟩
  | 125 => ⟨S320000, .f32⟩
  | 126 => ⟨S_, .f32⟩
  | 127 => ⟨S320000, .f32⟩
  | _ => ⟨S10000x128, .f32⟩

abbrev hbmTy0_1 (i : Nat) : BufTy := match i % 128 with
  | 0 => ⟨S320000, .f32⟩
  | 1 => ⟨S320000, .f32⟩
  | 2 => ⟨S320000x1, .f32⟩
  | 3 => ⟨S_, .i32⟩
  | 4 => ⟨S320000, .i32⟩
  | 5 => ⟨S320000, .i1⟩
  | 6 => ⟨S_, .i32⟩
  | 7 => ⟨S320000, .i32⟩
  | 8 => ⟨S320000, .i32⟩
  | 9 => ⟨S320000, .i32⟩
  | 10 => ⟨S320000x1, .i32⟩
  | 11 => ⟨S320000x128, .f32⟩
  | 12 => ⟨S320000x128, .f32⟩
  | 13 => ⟨S320000x128, .f32⟩
  | 14 => ⟨S_, .f32⟩
  | 15 => ⟨S10000x128, .f32⟩
  | 16 => ⟨S320000x1, .i32⟩
  | 17 => ⟨S10000x128, .f32⟩
  | 18 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S128x128, .f32⟩
  | .local _ .vmem, ⟨2, _⟩ => ⟨S128, .f32⟩
  | .local _ .vmem, ⟨3, _⟩ => ⟨S128, .f32⟩
  | .local _ .vmem, ⟨4, _⟩ => ⟨S10000x128, .f32⟩
  | .local _ .vmem, ⟨5, _⟩ => ⟨S10000, .f32⟩
  | .local _ .vmem, ⟨6, _⟩ => ⟨S10000, .f32⟩
  | .local _ .vmem, ⟨7, _⟩ => ⟨S10000x128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128x128, .f32⟩
  | .local _ .vmem, ⟨12, _⟩ => ⟨S128, .f32⟩
  | .local _ .vmem, ⟨13, _⟩ => ⟨S128, .f32⟩
  | .local _ .vmem, ⟨14, _⟩ => ⟨S10000x128, .f32⟩
  | .local _ .vmem, ⟨15, _⟩ => ⟨S10000, .f32⟩
  | .local _ .vmem, ⟨16, _⟩ => ⟨S10000, .f32⟩
  | .local _ .vmem, ⟨17, _⟩ => ⟨S10000x128, .f32⟩
  | .local _ .vmem, ⟨18, _⟩ => ⟨S128, .f32⟩
  | .local _ .vmem, ⟨19, _⟩ => ⟨S128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_8 : Ref sig .tc := ⟨.hbm, 68, rfl⟩
abbrev main_v40 : Ref sig .tc := ⟨.hbm, 69, rfl⟩
abbrev main_v41 : Ref sig .tc := ⟨.hbm, 70, rfl⟩
abbrev main_c_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52_0 : Ref sig .tc := ⟨.hbm, 83, rfl⟩
abbrev main_v52_1 : Ref sig .tc := ⟨.hbm, 84, rfl⟩
abbrev main_v52_2 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_c_12 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_13 : Ref sig .tc := ⟨.hbm, 95, rfl⟩
abbrev main_v60 : Ref sig .tc := ⟨.hbm, 96, rfl⟩
abbrev main_v61 : Ref sig .tc := ⟨.hbm, 97, rfl⟩
abbrev main_c_14 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_cst_16 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_17 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_18 : Ref sig .tc := ⟨.hbm, 117, rfl⟩
abbrev main_v77 : Ref sig .tc := ⟨.hbm, 118, rfl⟩
abbrev main_v78 : Ref sig .tc := ⟨.hbm, 119, rfl⟩
abbrev main_c_19 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_20 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_21 : Ref sig .tc := ⟨.hbm, 131, rfl⟩
abbrev main_v88 : Ref sig .tc := ⟨.hbm, 132, rfl⟩
abbrev main_v89 : Ref sig .tc := ⟨.hbm, 133, rfl⟩
abbrev main_c_22 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_23 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S10000x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S10000 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S10000 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S10000x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S10000 : Shape := ⟨1, ![10000]⟩
abbrev S_ : Shape := ⟨0, ![]⟩
abbrev S320000x1 : Shape := ⟨2, ![320000, 1]⟩
abbrev S10000x1 : Shape := ⟨2, ![10000, 1]⟩
abbrev S10000x320000 : Shape := ⟨2, ![10000, 320000]⟩
abbrev S320000x128 : Shape := ⟨2, ![320000, 128]⟩
abbrev S1x128 : Shape := ⟨2, ![1, 128]⟩

abbrev nBuf : Space → Nat
  | .hbm => 356
  | .vmem => 0
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S10000x128, .f32⟩
  | 17 => ⟨S1x320000, .i32⟩
  | 18 => ⟨S320000, .i32⟩
  | 19 => ⟨S1x320000, .i32⟩
  | 20 => ⟨S320000, .i32⟩
  | 21 => ⟨S10000, .f32⟩
  | 22 => ⟨S10000, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000, .f32⟩
  | 41 => ⟨S320000, .f32⟩
  | 42 => ⟨S_, .f32⟩
  | 43 => ⟨S320000, .f32⟩
  | 44 => ⟨S320000, .i1⟩
  | 45 => ⟨S_, .f32⟩
  | 46 => ⟨S320000, .f32⟩
  | 47 => ⟨S320000, .f32⟩
  | 48 => ⟨S320000, .f32⟩
  | 49 => ⟨S1x320000, .i32⟩
  | 50 => ⟨S10000, .i32⟩
  | 51 => ⟨S10000x1, .i32⟩
  | 52 => ⟨S10000x320000, .i32⟩
  | 53 => ⟨S10000x320000, .i32⟩
  | 54 => ⟨S10000x320000, .i1⟩
  | 55 => ⟨S1x320000, .f32⟩
  | 56 => ⟨S_, .f32⟩
  | 57 => ⟨S_, .f32⟩
  | 58 => ⟨S10000x320000, .f32⟩
  | 59 => ⟨S10000x320000, .f32⟩
  | 60 => ⟨S10000x320000, .f32⟩
  | 61 => ⟨S_, .f32⟩
  | 62 => ⟨S10000, .f32⟩
  | 63 => ⟨S_, .f32⟩
  | 64 => ⟨S10000, .f32⟩
  | 65 => ⟨S10000, .i1⟩
  | 66 => ⟨S_, .f32⟩
  | 67 => ⟨S10000, .f32⟩
  | 68 => ⟨S10000, .i1⟩
  | 69 => ⟨S10000, .i1⟩
  | 70 => ⟨S_, .f32⟩
  | 71 => ⟨S_, .f32⟩
  | 72 => ⟨S10000, .f32⟩
  | 73 => ⟨S10000, .f32⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S320000x1, .i32⟩
  | 82 => ⟨S320000, .f32⟩
  | 83 => ⟨S320000, .f32⟩
  | 84 => ⟨S320000, .f32⟩
  | 85 => ⟨S_, .f32⟩
  | 86 => ⟨S10000, .f32⟩
  | 87 => ⟨S320000x1, .i32⟩
  | 88 => ⟨S10000, .f32⟩
  | 89 => ⟨S10000, .f32⟩
  | 90 => ⟨S10000, .f32⟩
  | 91 => ⟨S_, .f32⟩
  | 92 => ⟨S10000, .f32⟩
  | 93 => ⟨S10000, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S320000, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000, .f32⟩
  | 112 => ⟨S320000, .f32⟩
  | 113 => ⟨S320000, .f32⟩
  | 114 => ⟨S320000x1, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S320000x128, .f32⟩
  | 124 => ⟨S320000x128, .f32⟩
  | 125 => ⟨S320000x128, .f32⟩
  | 126 => ⟨S_, .f32⟩
  | 127 => ⟨S10000x128, .f32⟩
  | _ => ⟨S10000x128, .f32⟩

abbrev hbmTy0_1 (i : Nat) : BufTy := match i % 128 with
  | 0 => ⟨S320000x1, .i32⟩
  | 1 => ⟨S10000x128, .f32⟩
  | 2 => ⟨S1x128, .f32⟩
  | 3 => ⟨S10000x128, .f32⟩
  | 4 => ⟨S10000x128, .f32⟩
  | 5 => ⟨S_, .f32⟩
  | 6 => ⟨S128, .f32⟩
  | 7 => ⟨S_, .f32⟩
  | 8 => ⟨S128, .f32⟩
  | 9 => ⟨S128, .f32⟩
  | 10 => ⟨S_, .i32⟩
  | 11 => ⟨S_, .f32⟩
  | 12 => ⟨S128, .f32⟩
  | 13 => ⟨S1x128, .f32⟩
  | 14 => ⟨S_, .f32⟩
  | 15 => ⟨S1x128, .f32⟩
  | 16 => ⟨S1x128, .f32⟩
  | 17 => ⟨S10000x128, .f32⟩
  | 18 => ⟨S10000x128, .f32⟩
  | 19 => ⟨S10000x128, .f32⟩
  | 20 => ⟨S_, .f32⟩
  | 21 => ⟨S_, .f32⟩
  | 22 => ⟨S_, .f32⟩
  | 23 => ⟨S_, .f32⟩
  | 24 => ⟨S128, .f32⟩
  | 25 => ⟨S128, .f32⟩
  | 26 => ⟨S128, .f32⟩
  | 27 => ⟨S_, .f32⟩
  | 28 => ⟨S_, .i1⟩
  | 29 => ⟨S_, .f32⟩
  | 30 => ⟨S_, .f32⟩
  | 31 => ⟨S128, .f32⟩
  | 32 => ⟨S128, .f32⟩
  | 33 => ⟨S1x128, .f32⟩
  | 34 => ⟨S10000x128, .f32⟩
  | 35 => ⟨S10000x128, .f32⟩
  | 36 => ⟨S_, .f32⟩
  | 37 => ⟨S128, .f32⟩
  | 38 => ⟨S128, .f32⟩
  | 39 => ⟨S128, .f32⟩
  | 40 => ⟨S1x128, .f32⟩
  | 41 => ⟨S10000x128, .f32⟩
  | 42 => ⟨S10000x128, .f32⟩
  | 43 => ⟨S1x128, .f32⟩
  | 44 => ⟨S10000x128, .f32⟩
  | 45 => ⟨S10000x128, .f32⟩
  | 46 => ⟨S1x128, .f32⟩
  | 47 => ⟨S10000x128, .f32⟩
  | 48 => ⟨S10000x128, .f32⟩
  | 49 => ⟨S_, .f32⟩
  | 50 => ⟨S10000x128, .f32⟩
  | 51 => ⟨S10000x128, .i1⟩
  | 52 => ⟨S_, .f32⟩
  | 53 => ⟨S10000x128, .f32⟩
  | 54 => ⟨S10000x128, .f32⟩
  | 55 => ⟨S10000x128, .f32⟩
  | 56 => ⟨S10000x128, .f32⟩
  | 57 => ⟨S1x320000, .i32⟩
  | 58 => ⟨S320000, .i32⟩
  | 59 => ⟨S1x320000, .i32⟩
  | 60 => ⟨S320000, .i32⟩
  | 61 => ⟨S10000, .f32⟩
  | 62 => ⟨S10000, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000, .f32⟩
  | 81 => ⟨S320000, .f32⟩
  | 82 => ⟨S_, .f32⟩
  | 83 => ⟨S320000, .f32⟩
  | 84 => ⟨S320000, .i1⟩
  | 85 => ⟨S_, .f32⟩
  | 86 => ⟨S320000, .f32⟩
  | 87 => ⟨S320000, .f32⟩
  | 88 => ⟨S320000, .f32⟩
  | 89 => ⟨S1x320000, .i32⟩
  | 90 => ⟨S10000, .i32⟩
  | 91 => ⟨S10000x1, .i32⟩
  | 92 => ⟨S10000x320000, .i32⟩
  | 93 => ⟨S10000x320000, .i32⟩
  | 94 => ⟨S10000x320000, .i1⟩
  | 95 => ⟨S1x320000, .f32⟩
  | 96 => ⟨S_, .f32⟩
  | 97 => ⟨S_, .f32⟩
  | 98 => ⟨S10000x320000, .f32⟩
  | 99 => ⟨S10000x320000, .f32⟩
  | 100 => ⟨S10000x320000, .f32⟩
  | 101 => ⟨S_, .f32⟩
  | 102 => ⟨S10000, .f32⟩
  | 103 => ⟨S_, .f32⟩
  | 104 => ⟨S10000, .f32⟩
  | 105 => ⟨S10000, .i1⟩
  | 106 => ⟨S_, .f32⟩
  | 107 => ⟨S10000, .f32⟩
  | 108 => ⟨S10000, .i1⟩
  | 109 => ⟨S10000, .i1⟩
  | 110 => ⟨S_, .f32⟩
  | 111 => ⟨S_, .f32⟩
  | 112 => ⟨S10000, .f32⟩
  | 113 => ⟨S10000, .f32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S320000, .f32⟩
  | 123 => ⟨S320000, .f32⟩
  | 124 => ⟨S320000, .f32⟩
  | 125 => ⟨S_, .f32⟩
  | 126 => ⟨S10000, .f32⟩
  | 127 => ⟨S320000x1, .i32⟩
  | _ => ⟨S10000x128, .f32⟩

abbrev hbmTy0_2 (i : Nat) : BufTy := match i % 128 with
  | 0 => ⟨S10000, .f32⟩
  | 1 => ⟨S10000, .f32⟩
  | 2 => ⟨S10000, .f32⟩
  | 3 => ⟨S_, .f32⟩
  | 4 => ⟨S10000, .f32⟩
  | 5 => ⟨S10000, .f32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S320000, .f32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S320000, .f32⟩
  | 24 => ⟨S320000, .f32⟩
  | 25 => ⟨S320000, .f32⟩
  | 26 => ⟨S320000x1, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x128, .f32⟩
  | 36 => ⟨S320000x128, .f32⟩
  | 37 => ⟨S320000x128, .f32⟩
  | 38 => ⟨S_, .f32⟩
  | 39 => ⟨S10000x128, .f32⟩
  | 40 => ⟨S320000x1, .i32⟩
  | 41 => ⟨S10000x128, .f32⟩
  | 42 => ⟨S1x128, .f32⟩
  | 43 => ⟨S10000x128, .f32⟩
  | 44 => ⟨S10000x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S10000x128, .f32⟩
  | 58 => ⟨S10000x128, .f32⟩
  | 59 => ⟨S10000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S10000x128, .f32⟩
  | 75 => ⟨S10000x128, .f32⟩
  | 76 => ⟨S_, .f32⟩
  | 77 => ⟨S128, .f32⟩
  | 78 => ⟨S128, .f32⟩
  | 79 => ⟨S128, .f32⟩
  | 80 => ⟨S1x128, .f32⟩
  | 81 => ⟨S10000x128, .f32⟩
  | 82 => ⟨S10000x128, .f32⟩
  | 83 => ⟨S1x128, .f32⟩
  | 84 => ⟨S10000x128, .f32⟩
  | 85 => ⟨S10000x128, .f32⟩
  | 86 => ⟨S1x128, .f32⟩
  | 87 => ⟨S10000x128, .f32⟩
  | 88 => ⟨S10000x128, .f32⟩
  | 89 => ⟨S_, .f32⟩
  | 90 => ⟨S10000x128, .f32⟩
  | 91 => ⟨S10000x128, .i1⟩
  | 92 => ⟨S_, .f32⟩
  | 93 => ⟨S10000x128, .f32⟩
  | 94 => ⟨S10000x128, .f32⟩
  | 95 => ⟨S10000x128, .f32⟩
  | 96 => ⟨S10000x128, .f32⟩
  | 97 => ⟨S1x128, .f32⟩
  | 98 => ⟨S10000x128, .f32⟩
  | 99 => ⟨S10000x128, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_call2_v0 : Ref sig .tc := ⟨.hbm, 71, rfl⟩
abbrev main_call2_v1 : Ref sig .tc := ⟨.hbm, 72, rfl⟩
abbrev main_v41 : Ref sig .tc := ⟨.hbm, 73, rfl⟩
abbrev main_c_9 : Ref sig .tc := ⟨.hbm, 74, rfl⟩
abbrev main_v42 : Ref sig .tc := ⟨.hbm, 75, rfl⟩
abbrev main_v43 : Ref sig .tc := ⟨.hbm, 76, rfl⟩
abbrev main_c_10 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_11 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_12 : Ref sig .tc := ⟨.hbm, 91, rfl⟩
abbrev main_v56 : Ref sig .tc := ⟨.hbm, 92, rfl⟩
abbrev main_v57 : Ref sig .tc := ⟨.hbm, 93, rfl⟩
abbrev main_c_13 : Ref sig .tc := ⟨.hbm, 94, rfl⟩
abbrev main_v58 : Ref sig .tc := ⟨.hbm, 95, rfl⟩
abbrev main_v59 : Ref sig .tc := ⟨.hbm, 96, rfl⟩
abbrev main_c_14 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_15 : Ref sig .tc := ⟨.hbm, 103, rfl⟩
abbrev main_v65 : Ref sig .tc := ⟨.hbm, 104, rfl⟩
abbrev main_v66 : Ref sig .tc := ⟨.hbm, 105, rfl⟩
abbrev main_c_16 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_17 : Ref sig .tc := ⟨.hbm, 115, rfl⟩
abbrev main_v75 : Ref sig .tc := ⟨.hbm, 116, rfl⟩
abbrev main_v76 : Ref sig .tc := ⟨.hbm, 117, rfl⟩
abbrev main_c_18 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_19 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_20 : Ref sig .tc := ⟨.hbm, 133, rfl⟩
abbrev main_v90 : Ref sig .tc := ⟨.hbm, 134, rfl⟩
abbrev main_cst_21 : Ref sig .tc := ⟨.hbm, 135, rfl⟩
abbrev main_v91 : Ref sig .tc := ⟨.hbm, 136, rfl⟩
abbrev main_v92 : Ref sig .tc := ⟨.hbm, 137, rfl⟩
abbrev main_c_22 : Ref sig .tc := ⟨.hbm, 138, rfl⟩
abbrev main_call3_cst : Ref sig .tc := ⟨.hbm, 139, rfl⟩
abbrev main_call3_v0 : Ref sig .tc := ⟨.hbm, 140, rfl⟩
abbrev main_call3_v1 : Ref sig .tc := ⟨.hbm, 141, rfl⟩
abbrev main_call3_cst_0 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_v6 : Ref sig .tc := ⟨.hbm, 147, rfl⟩
abbrev main_call3_v7 : Ref sig .tc := ⟨.hbm, 148, rfl⟩
abbrev main_call3_cst_1 : Ref sig .tc := ⟨.hbm, 149, rfl⟩
abbrev main_call3_v8 : Ref sig .tc := ⟨.hbm, 150, rfl⟩
abbrev main_call3_cst_2 : Ref sig .tc := ⟨.hbm, 151, rfl⟩
abbrev main_call3_v9 : Ref sig .tc := ⟨.hbm, 152, rfl⟩
abbrev main_call3_v10 : Ref sig .tc := ⟨.hbm, 153, rfl⟩
abbrev main_call3_v11 : Ref sig .tc := ⟨.hbm, 154, rfl⟩
abbrev main_call3_cst_3 : Ref sig .tc := ⟨.hbm, 155, rfl⟩
abbrev main_call3_v12 : Ref sig .tc := ⟨.hbm, 156, rfl⟩
abbrev main_call3_cst_4 : Ref sig .tc := ⟨.hbm, 157, rfl⟩
abbrev main_call3_call0_v0 : Ref sig .tc := ⟨.hbm, 158, rfl⟩
abbrev main_call3_call0_v1 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_cst_23 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_cst_24 : Ref sig .tc := ⟨.hbm, 177, rfl⟩
abbrev main_v109 : Ref sig .tc := ⟨.hbm, 178, rfl⟩
abbrev main_v110 : Ref sig .tc := ⟨.hbm, 179, rfl⟩
abbrev main_cst_25 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_c_26 : Ref sig .tc := ⟨.hbm, 191, rfl⟩
abbrev main_v121 : Ref sig .tc := ⟨.hbm, 192, rfl⟩
abbrev main_v122 : Ref sig .tc := ⟨.hbm, 193, rfl⟩
abbrev main_c_27 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_c_28 : Ref sig .tc := ⟨.hbm, 200, rfl⟩
abbrev main_v128 : Ref sig .tc := ⟨.hbm, 201, rfl⟩
abbrev main_v129 : Ref sig .tc := ⟨.hbm, 202, rfl⟩
abbrev main_c_29 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_cst_30 : Ref sig .tc := ⟨.hbm, 210, rfl⟩
abbrev main_v136 : Ref sig .tc := ⟨.hbm, 211, rfl⟩
abbrev main_v137 : Ref sig .tc := ⟨.hbm, 212, rfl⟩
abbrev main_cst_31 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_cst_32 : Ref sig .tc := ⟨.hbm, 224, rfl⟩
abbrev main_call6_v0 : Ref sig .tc := ⟨.hbm, 225, rfl⟩
abbrev main_call6_v1 : Ref sig .tc := ⟨.hbm, 226, rfl⟩
abbrev main_call6_v2 : Ref sig .tc := ⟨.hbm, 227, rfl⟩
abbrev main_v148 : Ref sig .tc := ⟨.hbm, 228, rfl⟩
abbrev main_cst_33 : Ref sig .tc := ⟨.hbm, 229, rfl⟩
abbrev main_v149 : Ref sig .tc := ⟨.hbm, 230, rfl⟩
abbrev main_cst_34 : Ref sig .tc := ⟨.hbm, 231, rfl⟩
abbrev main_v150 : Ref sig .tc := ⟨.hbm, 232, rfl⟩
abbrev main_v151 : Ref sig .tc := ⟨.hbm, 233, rfl⟩
abbrev main_cst_35 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_cst_36 : Ref sig .tc := ⟨.hbm, 238, rfl⟩
abbrev main_call7_v0 : Ref sig .tc := ⟨.hbm, 239, rfl⟩
abbrev main_call7_v1 : Ref sig .tc := ⟨.hbm, 240, rfl⟩
abbrev main_v155 : Ref sig .tc := ⟨.hbm, 241, rfl⟩
abbrev main_c_37 : Ref sig .tc := ⟨.hbm, 242, rfl⟩
abbrev main_v156 : Ref sig .tc := ⟨.hbm, 243, rfl⟩
abbrev main_v157 : Ref sig .tc := ⟨.hbm, 244, rfl⟩
abbrev main_c_38 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_cst_39 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_cst_40 : Ref sig .tc := ⟨.hbm, 259, rfl⟩
abbrev main_v170 : Ref sig .tc := ⟨.hbm, 260, rfl⟩
abbrev main_v171 : Ref sig .tc := ⟨.hbm, 261, rfl⟩
abbrev main_c_41 : Ref sig .tc := ⟨.hbm, 262, rfl⟩
abbrev main_v172 : Ref sig .tc := ⟨.hbm, 263, rfl⟩
abbrev main_v173 : Ref sig .tc := ⟨.hbm, 264, rfl⟩
abbrev main_c_42 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_c_43 : Ref sig .tc := ⟨.hbm, 271, rfl⟩
abbrev main_v179 : Ref sig .tc := ⟨.hbm, 272, rfl⟩
abbrev main_v180 : Ref sig .tc := ⟨.hbm, 273, rfl⟩
abbrev main_c_44 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_c_45 : Ref sig .tc := ⟨.hbm, 283, rfl⟩
abbrev main_v189 : Ref sig .tc := ⟨.hbm, 284, rfl⟩
abbrev main_v190 : Ref sig .tc := ⟨.hbm, 285, rfl⟩
abbrev main_c_46 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_cst_47 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_cst_48 : Ref sig .tc := ⟨.hbm, 301, rfl⟩
abbrev main_v204 : Ref sig .tc := ⟨.hbm, 302, rfl⟩
abbrev main_cst_49 : Ref sig .tc := ⟨.hbm, 303, rfl⟩
abbrev main_v205 : Ref sig .tc := ⟨.hbm, 304, rfl⟩
abbrev main_v206 : Ref sig .tc := ⟨.hbm, 305, rfl⟩
abbrev main_c_50 : Ref sig .tc := ⟨.hbm, 306, rfl⟩
abbrev main_call8_cst : Ref sig .tc := ⟨.hbm, 307, rfl⟩
abbrev main_call8_v0 : Ref sig .tc := ⟨.hbm, 308, rfl⟩
abbrev main_call8_v1 : Ref sig .tc := ⟨.hbm, 309, rfl⟩
abbrev main_call8_cst_0 : Ref sig .tc := ⟨.hbm, 310, rfl⟩
abbrev main_call8_v2 : Ref sig .tc := ⟨.hbm, 311, rfl⟩
abbrev main_call8_v3 : Ref sig .tc := ⟨.hbm, 312, rfl⟩
abbrev main_call8_v4 : Ref sig .tc := ⟨.hbm, 313, rfl⟩
abbrev main_call8_v5 : Ref sig .tc := ⟨.hbm, 314, rfl⟩
abbrev main_call8_v6 : Ref sig .tc := ⟨.hbm, 315, rfl⟩
abbrev main_call8_v7 : Ref sig .tc := ⟨.hbm, 316, rfl⟩
abbrev main_call8_cst_1 : Ref sig .tc := ⟨.hbm, 317, rfl⟩
abbrev main_call8_v8 : Ref sig .tc := ⟨.hbm, 318, rfl⟩
abbrev main_call8_cst_2 : Ref sig .tc := ⟨.hbm, 319, rfl⟩
abbrev main_call8_v9 : Ref sig .tc := ⟨.hbm, 320, rfl⟩
abbrev main_call8_v10 : Ref sig .tc := ⟨.hbm, 321, rfl⟩
abbrev main_call8_v11 : Ref sig .tc := ⟨.hbm, 322, rfl⟩
abbrev main_call8_cst_3 : Ref sig .tc := ⟨.hbm, 323, rfl⟩
abbrev main_call8_v12 : Ref sig .tc := ⟨.hbm, 324, rfl⟩
abbrev main_call8_cst_4 : Ref sig .tc := ⟨.hbm, 325, rfl⟩
abbrev main_call8_call0_v0 : Ref sig .tc := ⟨.hbm, 326, rfl⟩
abbrev main_call8_call0_v1 : Ref sig .tc := ⟨.hbm, 327, rfl⟩
abbrev main_v207 : Ref sig .tc := ⟨.hbm, 328, rfl⟩
abbrev main_v208 : Ref sig .tc := ⟨.hbm, 329, rfl⟩
abbrev main_v209 : Ref sig .tc := ⟨.hbm, 330, rfl⟩
abbrev main_v210 : Ref sig .tc := ⟨.hbm, 331, rfl⟩
abbrev main_cst_51 : Ref sig .tc := ⟨.hbm, 332, rfl⟩
abbrev main_v211 : Ref sig .tc := ⟨.hbm, 333, rfl⟩
abbrev main_v212 : Ref sig .tc := ⟨.hbm, 334, rfl⟩
abbrev main_v213 : Ref sig .tc := ⟨.hbm, 335, rfl⟩
abbrev main_v214 : Ref sig .tc := ⟨.hbm, 336, rfl⟩
abbrev main_v215 : Ref sig .tc := ⟨.hbm, 337, rfl⟩
abbrev main_v216 : Ref sig .tc := ⟨.hbm, 338, rfl⟩
abbrev main_v217 : Ref sig .tc := ⟨.hbm, 339, rfl⟩
abbrev main_v218 : Ref sig .tc := ⟨.hbm, 340, rfl⟩
abbrev main_v219 : Ref sig .tc := ⟨.hbm, 341, rfl⟩
abbrev main_v220 : Ref sig .tc := ⟨.hbm, 342, rfl⟩
abbrev main_v221 : Ref sig .tc := ⟨.hbm, 343, rfl⟩
abbrev main_v222 : Ref sig .tc := ⟨.hbm, 344, rfl⟩
abbrev main_cst_52 : Ref sig .tc := ⟨.hbm, 345, rfl⟩
abbrev main_v223 : Ref sig .tc := ⟨.hbm, 346, rfl⟩
abbrev main_v224 : Ref sig .tc := ⟨.hbm, 347, rfl⟩
abbrev main_cst_53 : Ref sig .tc := ⟨.hbm, 348, rfl⟩
abbrev main_v225 : Ref sig .tc := ⟨.hbm, 349, rfl⟩
abbrev main_v226 : Ref sig .tc := ⟨.hbm, 350, rfl⟩
abbrev main_v227 : Ref sig .tc := ⟨.hbm, 351, rfl⟩
abbrev main_v228 : Ref sig .tc := ⟨.hbm, 352, rfl⟩
abbrev main_v229 : Ref sig .tc := ⟨.hbm, 353, rfl⟩
abbrev main_v230 : Ref sig .tc := ⟨.hbm, 354, rfl⟩
abbrev main_v231 : Ref sig .tc := ⟨.hbm, 355, rfl⟩

abbrev nD : Nat := 1
abbrev τ : Topo := Topo.v7x

variable {F : FTy → Type} [FloatOps F]
-- ==== Proof.KernelRun.lean ====
/- The idealized kernel's run, stated with its result: the launch of the generated frame, whose last boundary also
   says what the result array holds. -/
module

public import proofs.«01_k».proof.Proof.Gen.KernelIdeal.Frame

@[expose] public section

noncomputable section

namespace Cert.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the idealized kernel terminates, its result array holding what the last boundary
    of the generated fold says of it and its argument arrays unchanged. -/
theorem kernel_run : θ_run defs (onTc (τ := τ) (main (F := F))) ⟨m, fun _ => 0, ρ⟩ (fun r => ∀ c : Dev nD,
      r.2.mem ((c.tc : Thread nD τ).loc main_v100) = W10 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => fun c =>
      ⟨h c _ (mem_uc main_v100 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.Gat
-- ==== Proof.Norm.lean ====
/- The normalisation over the nodes with its leaky unit, as the kernel's second and third regions spell it and as the host
   spells it: one array. -/
module

public import proofs.«01_k».proof.Proof.Gen.KernelIdeal.Skeleton
public import proofs.«01_k».proof.Proof.Gen.ReferenceIdeal
public import Idealize.ShloMosaic.Lib.KernelVsHost
public import Idealize.ShloMosaic.Lib.IdealHost

@[expose] public section

noncomputable section

namespace Cert.Gat

open Cert.ReferenceIdeal Cert.ReferenceIdeal.Gen
open Idealize.ShloMosaic Idealize.ShloMosaic.ValueIdx

/-! ## The host's arrays -/

/-- A vector over the features, repeated for every node. -/
def everyRow (x : FVec Ideal S128 .f32) : FVec Ideal S10000x128 .f32 :=
  broadcastInDim S10000x128 ![0, 1] bcast_S1x128_S10000x128_0_1 (broadcastInDim S1x128 ![1] bcast_S128_S1x128_1 x)

/-- A feature's sum over the nodes. -/
def total (x : FVec Ideal S10000x128 .f32) : FVec Ideal S128 .f32 :=
  Host.reduceAdd x (constant S_ .f32 0x00000000#32) reducesTo_S10000x128_S128_d0 h_S_

/-- A feature's mean over the nodes. -/
def mean (x : FVec Ideal S10000x128 .f32) : FVec Ideal S128 .f32 :=
  Host.divf (total x) (broadcastInDim S128 ![] bcast_S_S128 (constant S_ .f32 0x461C4000#32))

/-- The number of nodes less the correction, zero, as a number. -/
def count : FVec Ideal S_ .f32 := subf (constant S_ .f32 0x461C4000#32) (sitofp .f32 (constantI S_ 32 0#32))

/-- The distance of every entry from its feature's mean, the mean taken in a one-row matrix. -/
def centred (x : FVec Ideal S10000x128 .f32) : FVec Ideal S10000x128 .f32 :=
  subf x (broadcastInDim S10000x128 ![0, 1] bcast_S1x128_S10000x128_0_1
    (Host.divf (broadcastInDim S1x128 ![1] bcast_S128_S1x128_1 (total x))
      (broadcastInDim S1x128 ![] bcast_S_S1x128 (constant S_ .f32 0x461C4000#32))))

/-- A feature's variance over the nodes, no number where the count is not positive. -/
def variance (x : FVec Ideal S10000x128 .f32) : FVec Ideal S128 .f32 :=
  select (broadcastInDim S128 ![] bcast_S_S128 (cmpf .ogt count (constant S_ .f32 0x00000000#32)))
    (Host.divf (total (mulf (centred x) (centred x))) (broadcastInDim S128 ![] bcast_S_S128 count))
    (broadcastInDim S128 ![] bcast_S_S128 (id (constant S_ .f32 0x7FC00000#32)))

/-- The normalised, scaled and moved array. -/
def normal (x : FVec Ideal S10000x128 .f32) (γ β : FVec Ideal S128 .f32) : FVec Ideal S10000x128 .f32 :=
  addf (mulf (Host.divf (subf x (everyRow (mean x)))
    (everyRow (Host.sqrt (addf (variance x) (broadcastInDim S128 ![] bcast_S_S128 (constant S_ .f32 0x3727C5AC#32))))))
    (everyRow γ)) (everyRow β)

/-- The leaky unit of slope 0.01. -/
def leaky (x : FVec Ideal S10000x128 .f32) : FVec Ideal S10000x128 .f32 :=
  select (cmpf .ogt x (broadcastInDim S10000x128 ![] bcast_S_S10000x128 (constant S_ .f32 0x00000000#32))) x
    (mulf (broadcastInDim S10000x128 ![] bcast_S_S10000x128 (constant S_ .f32 0x3C23D70A#32)) x)

/-! ## The kernel's spelling of the parts -/

/-- The kernel's row repeated for every node. -/
def rowK (x : FVec Ideal S128 .f32) : FVec Ideal S10000x128 .f32 :=
  broadcastTo S10000x128 (shapeCast S1x128 x Cert.KernelIdeal.Gen.shapeCasts_S128_S1x128)
    Cert.KernelIdeal.Gen.broadcasts_S1x128_S10000x128

/-- The kernel's sum over the nodes. -/
def totalK (x : FVec Ideal S10000x128 .f32) : FVec Ideal S128 .f32 :=
  multiReduction .add [0] S128 x 0x00000000#32 Cert.KernelIdeal.Gen.reduces_S10000x128_S128 (.inl rfl) rfl

/-- The kernel's mean over the nodes. -/
def meanK (x : FVec Ideal S10000x128 .f32) : FVec Ideal S128 .f32 :=
  divf (totalK x) (broadcast S128 (Scalar.ofBits .f32 0x461C4000#32))

/-- The kernel's variance over the nodes. -/
def varianceK (x : FVec Ideal S10000x128 .f32) : FVec Ideal S128 .f32 :=
  divf (totalK (mulf (subf x (rowK (meanK x))) (subf x (rowK (meanK x))))) (broadcast S128 (Scalar.ofBits .f32 0x461C4000#32))

/-- The kernel's normalised, scaled and moved array. -/
def normalK (x : FVec Ideal S10000x128 .f32) (γ β : FVec Ideal S128 .f32) : FVec Ideal S10000x128 .f32 :=
  addf (mulf (divf (subf x (rowK (meanK x)))
    (rowK (sqrt (addf (varianceK x) (broadcast S128 (Scalar.ofBits .f32 0x3727C5AC#32)))))) (rowK γ)) (rowK β)

/-- The kernel's leaky unit. -/
def leakyK (x : FVec Ideal S10000x128 .f32) : FVec Ideal S10000x128 .f32 :=
  select (cmpf .ogt x (broadcast S10000x128 (Scalar.ofBits .f32 0x00000000#32))) x
    (mulf (broadcast S10000x128 (Scalar.ofBits .f32 0x3C23D70A#32)) x)

/-- The kernel's repeated row is the host's. -/
theorem rowK_eq (x : FVec Ideal S128 .f32) : rowK x = everyRow x := by
  refine (broadcastTo_row_eq_broadcastInDim x _ _ (by decide)).trans ?_
  funext i
  unfold everyRow broadcastInDim
  congr 1
  funext a; apply Fin.ext; match a with | ⟨0, _⟩ => rfl

/-- The kernel's sum over the nodes is the host's. -/
theorem totalK_eq (x : FVec Ideal S10000x128 .f32) : totalK x = total x :=
  multiReduction_add_eq_hostReduceAdd x _ Cert.KernelIdeal.Gen.reduces_S10000x128_S128 _ _ _ _ _ Ideal.ofBits_zero_f32

/-- The kernel's mean over the nodes is the host's. -/
theorem meanK_eq (x : FVec Ideal S10000x128 .f32) : meanK x = mean x := by
  unfold meanK
  rw [totalK_eq]
  rfl

/-- The kernel's leaky unit is the host's. -/
theorem leakyK_eq (x : FVec Ideal S10000x128 .f32) : leakyK x = leaky x := rfl

/-- The mean taken in a one-row matrix is the mean's row. -/
theorem centred_eq (x : FVec Ideal S10000x128 .f32) : centred x = subf x (everyRow (mean x)) := rfl

/-- The count is the number of nodes. -/
theorem count_eq : count = constant S_ .f32 0x461C4000#32 := by
  funext i
  show (Ideal.ofBits .f32 0x461C4000#32 : EReal) - (Scalar.sitofp .f32 0#32 : Ideal .f32) = Ideal.ofBits .f32 0x461C4000#32
  rw [sitofp_zero]
  exact sub_zero _

/-- The number of nodes, a constant of the programs, is 10000. -/
theorem nodes_value : Ideal.ofBits .f32 0x461C4000#32 = ((10000 : ℝ) : EReal) := by
  simp [Ideal.ofBits, Ideal.ieee, -EReal.coe_mul]; norm_num

/-- The count is positive: the variance is the mean of the squared distances. -/
theorem variance_eq (x : FVec Ideal S10000x128 .f32) : variance x
    = Host.divf (total (mulf (subf x (everyRow (mean x))) (subf x (everyRow (mean x)))))
        (broadcastInDim S128 ![] bcast_S_S128 (constant S_ .f32 0x461C4000#32)) := by
  unfold variance
  rw [count_eq, centred_eq]
  funext i
  have hc : (broadcastInDim S128 ![] bcast_S_S128
      (cmpf .ogt (constant (F := Ideal) S_ .f32 0x461C4000#32) (constant S_ .f32 0x00000000#32))) i = 1#1 := by
    show Ideal.cmp .ogt (Ideal.ofBits .f32 0x461C4000#32) (Ideal.ofBits .f32 0x00000000#32) = 1#1
    rw [nodes_value, Ideal.ofBits_zero_f32]
    simp [Ideal.cmp]
  show Scalar.select _ _ _ = _
  rw [hc]
  rfl

/-- The kernel's variance over the nodes is the host's. -/
theorem varianceK_eq (x : FVec Ideal S10000x128 .f32) : varianceK x = variance x := by
  rw [variance_eq]
  unfold varianceK
  rw [meanK_eq, rowK_eq, totalK_eq]
  rfl

/-- The kernel's normalised array is the host's. -/
theorem normalK_eq (x : FVec Ideal S10000x128 .f32) (γ β : FVec Ideal S128 .f32) : normalK x γ β = normal x γ β := by
  unfold normalK
  rw [meanK_eq, varianceK_eq, rowK_eq, rowK_eq, rowK_eq, rowK_eq]
  rfl

/-! ## The payloads -/

/-- The second region's first result: the first layer's sums through bias, normalisation and leaky unit, times the
    second layer's matrix. -/
theorem mid_eq (h : FVec Ideal S10000x128 .f32) (b γ β : FVec Ideal S128 .f32) (w : FVec Ideal S128x128 .f32) :
    Cert.KernelIdeal.Gen.k1_pay3 (F := Ideal) h b γ β w
      = Host.dotGeneral dot_S10000x128_S128x128_S10000x128_1_0_0_1_n_n none (leaky (normal (addf h (everyRow b)) γ β)) w := by
  rw [← rowK_eq, ← normalK_eq, ← leakyK_eq, ← matmul_zero_eq_dotGeneral]
  unfold Cert.KernelIdeal.Gen.k1_pay3
  rw [shapeCast_self]
  rfl

/-- The third region's result: the second layer's sums through bias, normalisation and leaky unit, times the last matrix,
    plus the last bias. -/
theorem fin_eq (h : FVec Ideal S10000x128 .f32) (b γ β : FVec Ideal S128 .f32) (w : FVec Ideal S128x128 .f32)
    (c : FVec Ideal S128 .f32) :
    Cert.KernelIdeal.Gen.k2_pay1 (F := Ideal) h b γ β w c
      = addf (Host.dotGeneral dot_S10000x128_S128x128_S10000x128_1_0_0_1_n_n none (leaky (normal (addf h (everyRow b)) γ β)) w)
          (everyRow c) := by
  rw [← rowK_eq, ← rowK_eq, ← normalK_eq, ← leakyK_eq, ← matmul_zero_eq_dotGeneral]
  unfold Cert.KernelIdeal.Gen.k2_pay1
  rw [shapeCast_self]
  rfl

end Cert.Gat
-- ==== Proof.Regions.lean ====
/- What each of the idealized kernel's three regions leaves in its output arrays, from the arrays it finds. -/
module

public import proofs.«01_k».proof.Proof.Gen.KernelIdeal.Frame
public import proofs.«01_k».proof.Proof.Norm
public import Idealize.ShloMosaic.Lib.Pipeline.ValueKit
public import Idealize.ShloMosaic.Lib.Claim
public import Idealize.ShloMosaic.Lib.Pointwise

@[expose] public section

noncomputable section

namespace Cert.Gat

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Features times a matrix. -/
def times (x : FVec Ideal S10000x128 .f32) (w : FVec Ideal S128x128 .f32) : FVec Ideal S10000x128 .f32 :=
  Host.dotGeneral dot_S10000x128_S128x128_S10000x128_1_0_0_1_n_n none x w

/-- Features times a vector: one score per node. -/
def along (x : FVec Ideal S10000x128 .f32) (a : FVec Ideal S128 .f32) : FVec Ideal S10000 .f32 :=
  Host.dotGeneral dot_S10000x128_S128_S10000_1_0_0_n_n_n none x a

/-- One node's features through bias, normalisation and leaky unit. -/
def unit (h : FVec Ideal S10000x128 .f32) (b γ β : FVec Ideal S128 .f32) : FVec Ideal S10000x128 .f32 :=
  leaky (normal (addf h (everyRow b)) γ β)

/-! ## The payloads -/

/-- The first region's first payload. -/
theorem pay0_1 (x : FVec Ideal S10000x128 .f32) (w : FVec Ideal S128x128 .f32) : k0_pay1 (F := Ideal) x w = times x w :=
  matmul_zero_eq_dotGeneral _ _ _ _

/-- The first region's second payload. -/
theorem pay0_2 (x : FVec Ideal S10000x128 .f32) (w : FVec Ideal S128x128 .f32) (a : FVec Ideal S128 .f32) :
    k0_pay2 (F := Ideal) x w a = along (times x w) a := by
  rw [← pay0_1]
  exact matmul_zero_eq_dotGeneral _ _ _ _

/-- The first region's third payload. -/
theorem pay0_3 (x : FVec Ideal S10000x128 .f32) (w : FVec Ideal S128x128 .f32) (a : FVec Ideal S128 .f32) :
    k0_pay3 (F := Ideal) x w a = along (times x w) a := by
  rw [← pay0_1]
  exact matmul_zero_eq_dotGeneral _ _ _ _

/-- The second region's second payload. -/
theorem pay1_1 (x : FVec Ideal S10000x128 .f32) (a : FVec Ideal S128 .f32) : k1_pay1 (F := Ideal) x a = along x a :=
  matmul_zero_eq_dotGeneral _ _ _ _

/-- The second region's third payload. -/
theorem pay1_2 (x : FVec Ideal S10000x128 .f32) (a : FVec Ideal S128 .f32) : k1_pay2 (F := Ideal) x a = along x a :=
  matmul_zero_eq_dotGeneral _ _ _ _

/-- The second region's first payload. -/
theorem pay1_3 (h : FVec Ideal S10000x128 .f32) (b γ β : FVec Ideal S128 .f32) (w : FVec Ideal S128x128 .f32) :
    k1_pay3 (F := Ideal) h b γ β w = times (unit h b γ β) w := mid_eq h b γ β w

/-- The third region's payload. -/
theorem pay2_1 (h : FVec Ideal S10000x128 .f32) (b γ β : FVec Ideal S128 .f32) (w : FVec Ideal S128x128 .f32)
    (o : FVec Ideal S128 .f32) : k2_pay1 (F := Ideal) h b γ β w o = addf (times (unit h b γ β) w) (everyRow o) :=
  fin_eq h b γ β w o

/-! ## The first region -/

/-- Every window's block index at the first region's one point. -/
theorem idx0 : ∀ t : Fin cfg0.N, win0_0.index t = ![0, 0] ∧ win0_1.index t = ![0, 0] ∧ win0_2.index t = ![0] ∧
    win0_3.index t = ![0] ∧ win0_4.index t = ![0, 0] ∧ win0_5.index t = ![0] ∧ win0_6.index t = ![0] :=
  (by decide +kernel : ∀ t : Fin grid0.N, _)

/-- Window 0's block in the first region is its whole array. -/
theorem block0_0 (c : Dev nD) : iblk0 V c 0 t0_0 = V c main_arg0 := by
  blk_ext! [iblk0, idx0 t0_0]

/-- Window 1's block in the first region is its whole array. -/
theorem block0_1 (c : Dev nD) : iblk0 V c 1 t0_0 = V c main_arg2 := by
  blk_ext! [iblk0, idx0 t0_0]

/-- Window 2's block in the first region is its whole array. -/
theorem block0_2 (c : Dev nD) : iblk0 V c 2 t0_0 = V c main_arg3 := by
  blk_ext! [iblk0, idx0 t0_0]

/-- Window 3's block in the first region is its whole array. -/
theorem block0_3 (c : Dev nD) : iblk0 V c 3 t0_0 = V c main_arg4 := by
  blk_ext! [iblk0, idx0 t0_0]

/-- The first region's projected features. -/
theorem region0_4 (c : Dev nD) :
    (dat0 V c).arrAt 4 cfg0.N = times (V c main_arg0) (V c main_arg2) := by
  refine (dat0 V c).arrAt_eq_of_after_last 4 t0_0 (by decide +kernel) _ fun j => ?_
  blk_simp
  rw [after0_4]
  unfold out0_4
  frame_out
  rw [block0_0, block0_1, pay0_1]

/-- The first region's source scores. -/
theorem region0_5 (c : Dev nD) :
    (dat0 V c).arrAt 5 cfg0.N = along (times (V c main_arg0) (V c main_arg2)) (V c main_arg3) := by
  refine (dat0 V c).arrAt_eq_of_after_last 5 t0_0 (by decide +kernel) _ fun j => ?_
  blk_simp
  rw [after0_5]
  unfold out0_5
  frame_out
  rw [block0_0, block0_1, block0_2, pay0_2]

/-- The first region's destination scores. -/
theorem region0_6 (c : Dev nD) :
    (dat0 V c).arrAt 6 cfg0.N = along (times (V c main_arg0) (V c main_arg2)) (V c main_arg4) := by
  refine (dat0 V c).arrAt_eq_of_after_last 6 t0_0 (by decide +kernel) _ fun j => ?_
  blk_simp
  rw [after0_6]
  unfold out0_6
  frame_out
  rw [block0_0, block0_1, block0_3, pay0_3]

/-! ## The second region -/

/-- Every window's block index at the second region's one point. -/
theorem idx1 : ∀ t : Fin cfg1.N, win1_0.index t = ![0, 0] ∧ win1_1.index t = ![0] ∧ win1_2.index t = ![0] ∧
    win1_3.index t = ![0] ∧ win1_4.index t = ![0, 0] ∧ win1_5.index t = ![0] ∧ win1_6.index t = ![0] ∧
    win1_7.index t = ![0, 0] ∧ win1_8.index t = ![0] ∧ win1_9.index t = ![0] :=
  (by decide +kernel : ∀ t : Fin grid1.N, _)

/-- Window 0's block in the second region is its whole array. -/
theorem block1_0 (c : Dev nD) : iblk1 V c 0 t1_0 = V c main_v51 := by
  blk_ext! [iblk1, idx1 t1_0]

/-- Window 1's block in the second region is its whole array. -/
theorem block1_1 (c : Dev nD) : iblk1 V c 1 t1_0 = V c main_arg5 := by
  blk_ext! [iblk1, idx1 t1_0]

/-- Window 2's block in the second region is its whole array. -/
theorem block1_2 (c : Dev nD) : iblk1 V c 2 t1_0 = V c main_arg6 := by
  blk_ext! [iblk1, idx1 t1_0]

/-- Window 3's block in the second region is its whole array. -/
theorem block1_3 (c : Dev nD) : iblk1 V c 3 t1_0 = V c main_arg7 := by
  blk_ext! [iblk1, idx1 t1_0]

/-- Window 4's block in the second region is its whole array. -/
theorem block1_4 (c : Dev nD) : iblk1 V c 4 t1_0 = V c main_arg8 := by
  blk_ext! [iblk1, idx1 t1_0]

/-- Window 5's block in the second region is its whole array. -/
theorem block1_5 (c : Dev nD) : iblk1 V c 5 t1_0 = V c main_arg9 := by
  blk_ext! [iblk1, idx1 t1_0]

/-- Window 6's block in the second region is its whole array. -/
theorem block1_6 (c : Dev nD) : iblk1 V c 6 t1_0 = V c main_arg10 := by
  blk_ext! [iblk1, idx1 t1_0]

/-- The second region's projected features. -/
theorem region1_7 (c : Dev nD) :
    (dat1 V c).arrAt 7 cfg1.N = times (unit (V c main_v51) (V c main_arg5) (V c main_arg6) (V c main_arg7)) (V c main_arg8) := by
  refine (dat1 V c).arrAt_eq_of_after_last 7 t1_0 (by decide +kernel) _ fun j => ?_
  blk_simp
  rw [after1_7]
  unfold out1_7
  frame_out
  rw [block1_0, block1_1, block1_2, block1_3, block1_4, pay1_3]

/-- The second region's source scores. -/
theorem region1_8 (c : Dev nD) :
    (dat1 V c).arrAt 8 cfg1.N = along
      (times (unit (V c main_v51) (V c main_arg5) (V c main_arg6) (V c main_arg7)) (V c main_arg8)) (V c main_arg9) := by
  refine (dat1 V c).arrAt_eq_of_after_last 8 t1_0 (by decide +kernel) _ fun j => ?_
  blk_simp
  rw [after1_8]
  unfold out1_8 k1_pay4
  frame_out
  rw [block1_0, block1_1, block1_2, block1_3, block1_4, block1_5, pay1_3, pay1_1]

/-- The second region's destination scores. -/
theorem region1_9 (c : Dev nD) :
    (dat1 V c).arrAt 9 cfg1.N = along
      (times (unit (V c main_v51) (V c main_arg5) (V c main_arg6) (V c main_arg7)) (V c main_arg8)) (V c main_arg10) := by
  refine (dat1 V c).arrAt_eq_of_after_last 9 t1_0 (by decide +kernel) _ fun j => ?_
  blk_simp
  rw [after1_9]
  unfold out1_9 k1_pay4
  frame_out
  rw [block1_0, block1_1, block1_2, block1_3, block1_4, block1_6, pay1_3, pay1_2]

/-! ## The third region -/

/-- Every window's block index at the third region's one point. -/
theorem idx2 : ∀ t : Fin cfg2.N, win2_0.index t = ![0, 0] ∧ win2_1.index t = ![0] ∧ win2_2.index t = ![0] ∧
    win2_3.index t = ![0] ∧ win2_4.index t = ![0, 0] ∧ win2_5.index t = ![0] ∧ win2_6.index t = ![0, 0] :=
  (by decide +kernel : ∀ t : Fin grid2.N, _)

/-- Window 0's block in the third region is its whole array. -/
theorem block2_0 (c : Dev nD) : iblk2 V c 0 t2_0 = V c main_v99 := by
  blk_ext! [iblk2, idx2 t2_0]

/-- Window 1's block in the third region is its whole array. -/
theorem block2_1 (c : Dev nD) : iblk2 V c 1 t2_0 = V c main_arg11 := by
  blk_ext! [iblk2, idx2 t2_0]

/-- Window 2's block in the third region is its whole array. -/
theorem block2_2 (c : Dev nD) : iblk2 V c 2 t2_0 = V c main_arg12 := by
  blk_ext! [iblk2, idx2 t2_0]

/-- Window 3's block in the third region is its whole array. -/
theorem block2_3 (c : Dev nD) : iblk2 V c 3 t2_0 = V c main_arg13 := by
  blk_ext! [iblk2, idx2 t2_0]

/-- Window 4's block in the third region is its whole array. -/
theorem block2_4 (c : Dev nD) : iblk2 V c 4 t2_0 = V c main_arg14 := by
  blk_ext! [iblk2, idx2 t2_0]

/-- Window 5's block in the third region is its whole array. -/
theorem block2_5 (c : Dev nD) : iblk2 V c 5 t2_0 = V c main_arg15 := by
  blk_ext! [iblk2, idx2 t2_0]

/-- The third region's result. -/
theorem region2_6 (c : Dev nD) :
    (dat2 V c).arrAt 6 cfg2.N = addf
      (times (unit (V c main_v99) (V c main_arg11) (V c main_arg12) (V c main_arg13)) (V c main_arg14)) (everyRow (V c main_arg15)) := by
  refine (dat2 V c).arrAt_eq_of_after_last 6 t2_0 (by decide +kernel) _ fun j => ?_
  blk_simp
  rw [after2_6]
  unfold out2_6
  frame_out
  rw [block2_0, block2_1, block2_2, block2_3, block2_4, block2_5, pay2_1]

end Cert.Gat
-- ==== Proof.Shift.lean ====
/- The extended-real facts behind the softmax without its shift: subtracting a real number inside the exponential
   multiplies every exponential of a node, the node's sum of them and the guard by one positive real factor, and a
   quotient does not see such a factor. -/
module

public import Idealize.ShloMosaic.PureOps.Ideal

@[expose] public section

noncomputable section

namespace Cert.Gat

open Idealize.ShloMosaic

/-- The exponential of a difference with a real number is the exponential times a positive real factor, at `⊥` and `⊤` too. -/
theorem exp_sub_real (a : EReal) (r : ℝ) : Ideal.exp (a - (r : EReal)) = Ideal.exp a * ((Real.exp (-r) : ℝ) : EReal) := by
  induction a using EReal.rec with
  | bot =>
    rw [EReal.bot_sub]
    show (0 : EReal) = 0 * _
    rw [zero_mul]
  | top =>
    rw [EReal.top_sub_coe]
    exact (EReal.top_mul_coe_of_pos (Real.exp_pos _)).symm
  | coe x =>
    rw [← EReal.coe_sub]
    show ((Real.exp (x - r) : ℝ) : EReal) = ((Real.exp x : ℝ) : EReal) * _
    rw [← EReal.coe_mul, ← Real.exp_add, sub_eq_add_neg]

/-- A positive real factor distributes over a sum of any two extended reals. -/
theorem add_mul_pos (x y : EReal) {c : ℝ} (hc : 0 < c) : (x + y) * (c : EReal) = x * c + y * c :=
  EReal.right_distrib_of_nonneg_of_ne_top (by exact_mod_cast hc.le) (EReal.coe_ne_top c) x y

/-- A positive real factor distributes over a finite sum of extended reals. -/
theorem sum_mul_pos {ι : Type} (s : Finset ι) (f : ι → EReal) {c : ℝ} (hc : 0 < c) :
    (∑ i ∈ s, f i) * (c : EReal) = ∑ i ∈ s, f i * c := by
  classical
  induction s using Finset.induction_on with
  | empty => rw [Finset.sum_empty, Finset.sum_empty, zero_mul]
  | insert a s ha ih => rw [Finset.sum_insert ha, Finset.sum_insert ha, add_mul_pos _ _ hc, ih]

/-- A quotient keeps its value when both sides are scaled by one positive real factor. -/
theorem div_mul_pos (x y : EReal) {c : ℝ} (hc : 0 < c) : Ideal.div (x * c) (y * c) = Ideal.div x y := by
  have hc0 : (c : EReal) ≠ 0 := by exact_mod_cast hc.ne'
  have hcp : (0 : EReal) < c := by exact_mod_cast hc
  have hcc : (c : EReal) * (c : EReal)⁻¹ = 1 := by
    rw [← EReal.coe_inv, ← EReal.coe_mul, mul_inv_cancel₀ hc.ne']; rfl
  unfold Ideal.div
  by_cases hy : y = 0
  · rw [hy, zero_mul, if_pos rfl, if_pos rfl]
    have : (0 : EReal) < x * c ↔ 0 < x := by
      constructor
      · intro h
        by_contra hx
        exact absurd h (not_lt.2 (EReal.mul_nonpos_iff.2 (.inr ⟨not_lt.1 hx, hcp.le⟩)))
      · intro h; exact EReal.mul_pos h hcp
    simp only [this]
  · rw [if_neg (mul_ne_zero hy hc0), if_neg hy, EReal.mul_inv]
    calc x * c * (y⁻¹ * (c : EReal)⁻¹) = x * y⁻¹ * (c * (c : EReal)⁻¹) := by
          rw [mul_assoc, mul_assoc, mul_left_comm (c : EReal) y⁻¹]
      _ = x * y⁻¹ := by rw [hcc, mul_one]

/-- With an unshifted guard the weights differ: for a positive exponential, a positive sum and a positive guard, a shift
    other than zero changes the quotient. So `reference.py`'s own weights are not the kernel's. -/
theorem quot_shift_ne {e s g m : ℝ} (he : 0 < e) (hs : 0 < s) (hg : 0 < g) (hm : m ≠ 0) :
    e * Real.exp (-m) / (s * Real.exp (-m) + g) ≠ e / (s + g) := by
  have hk := Real.exp_pos (-m)
  intro h
  rw [div_eq_div_iff (by positivity) (by positivity)] at h
  have h1 : e * g * (Real.exp (-m) - 1) = 0 := by linear_combination h
  have h2 : Real.exp (-m) = 1 := sub_eq_zero.mp ((mul_eq_zero.mp h1).resolve_left (by positivity))
  exact hm (neg_eq_zero.mp (Real.exp_eq_one_iff _ |>.mp h2))

end Cert.Gat
-- ==== Proof.Edges.lean ====
/- The softmax-weighted sum over edges, with and without the shift by a number per node: the arrays that both programs
   compute on the host from the scores at the two ends of an edge, and their equality for any finite shift. -/
module

public import proofs.«01_k».proof.Proof.Shift
public import proofs.«01_k».proof.Proof.Gen.KernelIdeal
public import Idealize.ShloMosaic.Lib.Routing.Ops
public import Idealize.ShloMosaic.Lib.Routing.OpsPair
public import Idealize.ShloMosaic.Lib.Routing.OpsSet
public import Idealize.ShloMosaic.Lib.IdealHost

@[expose] public section

noncomputable section

namespace Cert.Gat

open Cert.KernelIdeal Cert.KernelIdeal.Gen
open Idealize.ShloMosaic Idealize.ShloMosaic.Routing Idealize.ShloMosaic.ValueIdx

/-! ## The arrays -/

/-- Node numbers of the edges as a column of start indices. -/
def column (i : IVec S320000 32) : IVec S320000x1 32 := broadcastInDim S320000x1 ![0] bcast_S320000_S320000x1_0 i

/-- Node numbers of the edges with a negative one counted from the end, as a column of start indices. -/
def wrapped (i : IVec S320000 32) : IVec S320000x1 32 :=
  column (select (cmpi .slt i (broadcastInDim S320000 ![] bcast_S_S320000 (constantI S_ 32 0#32)))
    (addi i (broadcastInDim S320000 ![] bcast_S_S320000 (constantI S_ 32 10000#32))) i)

/-- One number per edge: the node's number at the edge's end. -/
def atEnd (i : IVec S320000 32) (x : FVec Ideal S10000 .f32) : FVec Ideal S320000 .f32 :=
  Host.gather gather_S10000_S320000x1_S320000_n_0_n_n_0_1_1 x (wrapped i)

/-- One number per node: the sum of the numbers of the edges that end there. -/
def nodeSum (d : IVec S320000 32) (x : FVec Ideal S320000 .f32) : FVec Ideal S10000 .f32 :=
  Host.scatterAdd scatter_S10000_S320000x1_S320000_n_0_0_1
    (broadcastInDim S10000 ![] bcast_S_S10000 (constant S_ .f32 0x00000000#32)) (column d) x

/-- One row per node: the sum over the edges that end there of the edge's number times the row of its source. -/
def rowSum (s d : IVec S320000 32) (coef : FVec Ideal S320000 .f32) (xp : FVec Ideal S10000x128 .f32) : FVec Ideal S10000x128 .f32 :=
  Host.scatterAdd scatter_S10000x128_S320000x1_S320000x128_1_0_0_1
    (broadcastInDim S10000x128 ![] bcast_S_S10000x128 (constant S_ .f32 0x00000000#32)) (column d)
    (mulf (broadcastInDim S320000x128 ![0, 1] bcast_S320000x1_S320000x128_0_1
        (broadcastInDim S320000x1 ![0] bcast_S320000_S320000x1_0 coef))
      (Host.gather gather_S10000x128_S320000x1_S320000x128_1_0_n_n_0_1_1128 xp (wrapped s)))

/-- The score of each edge: the sum of its two ends' scores through the leaky unit of slope 0.2. -/
def score (s d : IVec S320000 32) (sc dc : FVec Ideal S10000 .f32) : FVec Ideal S320000 .f32 :=
  select (cmpf .ogt (addf (atEnd s sc) (atEnd d dc)) (broadcastInDim S320000 ![] bcast_S_S320000 (constant S_ .f32 0x00000000#32)))
    (addf (atEnd s sc) (atEnd d dc))
    (mulf (broadcastInDim S320000 ![] bcast_S_S320000 (constant S_ .f32 0x3E4CCCCD#32)) (addf (atEnd s sc) (atEnd d dc)))

/-- The kernel's weights: exponentials of the scores over their node's sum plus the guard. -/
def weightPlain (d : IVec S320000 32) (a : FVec Ideal S320000 .f32) : FVec Ideal S320000 .f32 :=
  Host.divf (Host.exp a)
    (addf (atEnd d (nodeSum d (Host.exp a))) (broadcastInDim S320000 ![] bcast_S_S320000 (constant S_ .f32 0x24E69595#32)))

/-- The reference's weights: the scores shifted by a number per node first, the guard in the shifted units. -/
def weightShifted (d : IVec S320000 32) (mx : FVec Ideal S10000 .f32) (a : FVec Ideal S320000 .f32) : FVec Ideal S320000 .f32 :=
  Host.divf (Host.exp (subf a (atEnd d mx)))
    (addf (atEnd d (nodeSum d (Host.exp (subf a (atEnd d mx)))))
      (atEnd d (mulf (broadcastInDim S10000 ![] bcast_S_S10000 (constant S_ .f32 0x24E69595#32)) (Host.exp (Host.negf mx)))))

/-! ## Which edges a node's sums take -/

/-- An accumulating scatter read at an element: the element before, plus the updates that land on it. -/
theorem scatterAdd_apply {s si u : Shape} (dm : ScatterDims s si u) (x : FVec Ideal s .f32) (idx : IVec si 32) (upd : FVec Ideal u .f32)
    (i : s.Idx) : Host.scatterAdd dm x idx upd i
      = (x i + ∑ k ∈ Finset.univ.filter (fun k => dm.resultIdx? k idx = some i), upd k : EReal) := rfl

/-- An entry of a column of node numbers is the edge's node number. -/
theorem column_apply (i : IVec S320000 32) (k : S320000x1.Idx) : column i k = i (ix1 (k 0)) := by
  unfold column broadcastInDim
  congr 1
  funext a
  apply Fin.ext
  match a with
  | ⟨0, _⟩ => rfl

/-- An edge that a node's sum takes ends at that node. -/
theorem ends_of_nodeSum {d : IVec S320000 32} {k : S320000.Idx} {n : S10000.Idx}
    (h : scatter_S10000_S320000x1_S320000_n_0_0_1.resultIdx? k (column d) = some n) : (d k).toInt = ((n 0).val : Int) := by
  have h0 := (resultIdx?_eq_some _ k (column d) n).1 h 0
  have hw : scatter_S10000_S320000x1_S320000_n_0_0_1.window k 0 = 0 := by
    unfold ScatterDims.window
    rw [dif_neg (by decide)]
  rw [hw] at h0
  unfold ScatterDims.start at h0
  rw [dif_pos (by decide), column_apply] at h0
  have h1 : (d k).toInt + ((0 : Nat) : Int) = ((n 0).val : Int) := by
    refine Eq.trans (congrArg (fun z => (d z).toInt + ((0 : Nat) : Int)) ?_) h0
    funext b; apply Fin.ext; match b with | ⟨0, _⟩ => rfl
  simpa using h1

/-- An edge that a node's row sum takes ends at that node. -/
theorem ends_of_rowSum {d : IVec S320000 32} {k : S320000x128.Idx} {n : S10000x128.Idx}
    (h : scatter_S10000x128_S320000x1_S320000x128_1_0_0_1.resultIdx? k (column d) = some n) :
    (d (ix1 (k 0))).toInt = ((n 0).val : Int) := by
  have h0 := (resultIdx?_eq_some _ k (column d) n).1 h 0
  have hw : scatter_S10000x128_S320000x1_S320000x128_1_0_0_1.window k 0 = 0 := by
    unfold ScatterDims.window
    rw [dif_neg (by decide)]
  rw [hw] at h0
  unfold ScatterDims.start at h0
  rw [dif_pos (by decide), column_apply] at h0
  have h1 : (d (ix1 (k 0))).toInt + ((0 : Nat) : Int) = ((n 0).val : Int) := by
    refine Eq.trans (congrArg (fun z => (d z).toInt + ((0 : Nat) : Int)) ?_) h0
    funext b; apply Fin.ext; match b with | ⟨0, _⟩ => rfl
  simpa using h1

/-- Counting a node number from the end when it is negative leaves a node's number as it is. -/
theorem wrap_node (y : BitVec 32) (n : Nat) (hn : n < 10000) (hy : y = BitVec.ofNat 32 n) :
    Scalar.select (IntOp.cmpi .slt y 0#32) (IntOp.addi y 10000#32) y = BitVec.ofNat 32 n := by
  rw [hy]
  refine wrap_of_lt _ _ ?_
  rw [BitVec.toNat_ofNat]
  omega

/-- Where an edge ends at a node, the number at its end is the node's. -/
theorem atEnd_of_ends {d : IVec S320000 32} {k : S320000.Idx} {n : S10000.Idx} (h : (d k).toInt = ((n 0).val : Int))
    (x : FVec Ideal S10000 .f32) : atEnd d x k = x n := by
  have hn : (n 0).val < 10000 := (n 0).isLt
  have hd : d k = BitVec.ofNat 32 (n 0).val := by
    apply BitVec.eq_of_toInt_eq
    rw [h, StableHlo.Predicate.toInt_ofNat_small _ (by omega)]
  rw [eq_ix1 k, eq_ix1 n]
  refine gather_take1 gather_S10000_S320000x1_S320000_n_0_n_n_0_1_1 rfl rfl rfl rfl x (wrapped d) (k 0) (n 0) ?_ (by decide)
  unfold wrapped
  rw [column_apply]
  refine wrap_node (d _) (n 0).val hn (Eq.trans (congrArg d ?_) hd)
  funext b; apply Fin.ext; match b with | ⟨0, _⟩ => rfl

/-! ## The shift cancels -/

/-- Every entry of the array is a real number. -/
def Finite (mx : FVec Ideal S10000 .f32) : Prop := ∀ n, ∃ r : ℝ, mx n = (r : EReal)

/-- The row sum looks at an edge's number only where the edge ends at a node. -/
theorem rowSum_congr (s d : IVec S320000 32) (u v : FVec Ideal S320000 .f32) (xp : FVec Ideal S10000x128 .f32)
    (h : ∀ (k : S320000.Idx) (n : S10000.Idx), (d k).toInt = ((n 0).val : Int) → u k = v k) : rowSum s d u xp = rowSum s d v xp := by
  funext i
  unfold rowSum
  rw [scatterAdd_apply, scatterAdd_apply]
  refine congrArg (fun z : EReal => _ + z) ?_
  refine Finset.sum_congr rfl fun k hk => ?_
  have he := ends_of_rowSum (Finset.mem_filter.1 hk).2
  have := h (ix1 (k 0)) (ix1 (i 0)) he
  show (_ : EReal) * _ = _ * _
  congr 1
  unfold broadcastInDim
  refine Eq.trans (congrArg u ?_) (this.trans (congrArg v ?_))
  · funext a; apply Fin.ext; match a with | ⟨0, _⟩ => rfl
  · funext a; apply Fin.ext; match a with | ⟨0, _⟩ => rfl

/-- The exponential of a shifted score, at an edge that ends at a node whose shift is the real number `r`. -/
theorem exp_shifted {d : IVec S320000 32} {mx : FVec Ideal S10000 .f32} {k : S320000.Idx} {n : S10000.Idx} {r : ℝ}
    (h : (d k).toInt = ((n 0).val : Int)) (hr : mx n = (r : EReal)) (a : FVec Ideal S320000 .f32) :
    Host.exp (subf a (atEnd d mx)) k = Host.exp a k * (((Real.exp (-r) : ℝ) : EReal) : Ideal .f32) := by
  show Ideal.exp (a k - atEnd d mx k) = Ideal.exp (a k) * _
  rw [atEnd_of_ends h, hr]
  exact exp_sub_real _ _

/-- A node's sum of shifted exponentials is its plain sum times the node's factor. -/
theorem nodeSum_shifted {d : IVec S320000 32} {mx : FVec Ideal S10000 .f32} {n : S10000.Idx} {r : ℝ} (hr : mx n = (r : EReal))
    (a : FVec Ideal S320000 .f32) :
    nodeSum d (Host.exp (subf a (atEnd d mx))) n = nodeSum d (Host.exp a) n * (((Real.exp (-r) : ℝ) : EReal) : Ideal .f32) := by
  have hz : (broadcastInDim S10000 ![] bcast_S_S10000 (constant (F := Ideal) S_ .f32 0x00000000#32)) n = (0 : EReal) := Ideal.ofBits_zero_f32
  unfold nodeSum
  rw [scatterAdd_apply, scatterAdd_apply, hz, zero_add, zero_add, sum_mul_pos _ _ (Real.exp_pos _)]
  refine Finset.sum_congr rfl fun k hk => ?_
  exact exp_shifted (ends_of_nodeSum (Finset.mem_filter.1 hk).2) hr a

/-- A quotient by a sum, entry by entry. -/
theorem quot_apply (x y z : FVec Ideal S320000 .f32) (k : S320000.Idx) :
    Host.divf x (addf y z) k = Ideal.div (x k) ((y k : EReal) + z k) := rfl

/-- THE SHIFT CANCELS: at an edge that ends at a node, the shifted weight is the plain one. -/
theorem weight_eq {d : IVec S320000 32} {mx : FVec Ideal S10000 .f32} (hm : Finite mx) (a : FVec Ideal S320000 .f32)
    {k : S320000.Idx} {n : S10000.Idx} (h : (d k).toInt = ((n 0).val : Int)) : weightPlain d a k = weightShifted d mx a k := by
  obtain ⟨r, hr⟩ := hm n
  unfold weightPlain weightShifted
  rw [quot_apply, quot_apply]
  rw [atEnd_of_ends h, atEnd_of_ends h, atEnd_of_ends h, exp_shifted h hr, nodeSum_shifted hr]
  have hg : (mulf (broadcastInDim S10000 ![] bcast_S_S10000 (constant (F := Ideal) S_ .f32 0x24E69595#32)) (Host.exp (Host.negf mx))) n
      = Ideal.ofBits .f32 0x24E69595#32 * ((Real.exp (-r) : ℝ) : EReal) := by
    show Ideal.ofBits .f32 0x24E69595#32 * Ideal.exp (-(mx n)) = _
    rw [hr, ← EReal.coe_neg]
    rfl
  rw [hg]
  exact ((congrArg _ (add_mul_pos _ _ (Real.exp_pos _)).symm).trans (div_mul_pos _ _ (Real.exp_pos _))).symm

/-- The weighted row sums with the plain and with the shifted weights are the same array, for any finite shift. -/
theorem rowSum_weight (s d : IVec S320000 32) {mx : FVec Ideal S10000 .f32} (hm : Finite mx) (a : FVec Ideal S320000 .f32)
    (xp : FVec Ideal S10000x128 .f32) : rowSum s d (weightPlain d a) xp = rowSum s d (weightShifted d mx a) xp :=
  rowSum_congr s d _ _ xp fun _ _ h => weight_eq hm a h

/-! ## The shift is finite -/

/-- The maximum with every infinite entry replaced by zero has real entries only. -/
theorem finite_guarded (mx : FVec Ideal S10000 .f32) :
    Finite (select (andi (cmpf .ogt mx (broadcastInDim S10000 ![] bcast_S_S10000 (constant S_ .f32 0xFF800000#32)))
        (cmpf .olt mx (broadcastInDim S10000 ![] bcast_S_S10000 (constant S_ .f32 0x7F800000#32)))) mx
      (broadcastInDim S10000 ![] bcast_S_S10000 (id (constant S_ .f32 0x00000000#32)))) := by
  intro n
  have hb : Ideal.ofBits .f32 0xFF800000#32 = (⊥ : EReal) := by simp [Ideal.ofBits, Ideal.ieee]
  have ht : Ideal.ofBits .f32 0x7F800000#32 = (⊤ : EReal) := by simp [Ideal.ofBits, Ideal.ieee]
  show ∃ r : ℝ, Scalar.select (IntOp.andi (Ideal.cmp .ogt (mx n) (Ideal.ofBits .f32 0xFF800000#32))
    (Ideal.cmp .olt (mx n) (Ideal.ofBits .f32 0x7F800000#32))) (mx n) (Ideal.ofBits .f32 0x00000000#32) = (r : EReal)
  rw [hb, ht, Ideal.ofBits_zero_f32]
  generalize (mx n : EReal) = x
  induction x using EReal.rec with
  | bot => exact ⟨0, by simp [Ideal.cmp, IntOp.andi, Scalar.select]⟩
  | top => exact ⟨0, by simp [Ideal.cmp, IntOp.andi, Scalar.select]⟩
  | coe x => exact ⟨x, by simp [Ideal.cmp, IntOp.andi, Scalar.select]⟩

end Cert.Gat
-- ==== Proof.Stretch.lean ====
/- What the idealized kernel's host operations between its regions leave, from the arrays they find. -/
module

public import proofs.«01_k».proof.Proof.Gen.KernelIdeal.Launch
public import proofs.«01_k».proof.Proof.Edges
public import Idealize.ShloMosaic.Lib.StableHlo.Run

@[expose] public section

noncomputable section

namespace Cert.Gat

open Cert.KernelIdeal Cert.KernelIdeal.Gen
open Idealize.ShloMosaic Idealize.ShloMosaic.TcCoe Idealize.SL.Sem Idealize.ShloMosaic.StableHlo

/-- The sources of the edges: the first row of the edge list. -/
def sources (e : IVec S2x320000 32) : IVec S320000 32 :=
  shapeCast S320000 (extractStridedSlice S1x320000 ![0, 0] e slices_S2x320000_S1x320000_0_0) shapeCasts_S1x320000_S320000

/-- The destinations of the edges: the second row of the edge list. -/
def targets (e : IVec S2x320000 32) : IVec S320000 32 :=
  shapeCast S320000 (extractStridedSlice S1x320000 ![1, 0] e slices_S2x320000_S1x320000_1_0) shapeCasts_S1x320000_S320000

variable (V : Valuation τ sig (Elt Ideal))

/-- The first stretch leaves the sources. -/
theorem stretch0_src : after hostOps0 V (Proc.devRef .tc main_v1) = sources (V (Proc.devRef .tc main_arg1)) := by
  simp only [hostOps0]
  after_results_simp
  all_goals rfl

/-- The first stretch leaves the destinations. -/
theorem stretch0_dst : after hostOps0 V (Proc.devRef .tc main_v3) = targets (V (Proc.devRef .tc main_arg1)) := by
  simp only [hostOps0]
  after_results_simp
  all_goals rfl

/-! ## The first layer -/

set_option maxRecDepth 8192 in
set_option maxHeartbeats 2000000 in
/-- The sum of the scores at an edge's two ends. -/
theorem stretch1_sum : after hostOps1 V (Proc.devRef .tc main_v19)
    = addf (atEnd (V (Proc.devRef .tc main_v1)) (V (Proc.devRef .tc main_v4_1)))
        (atEnd (V (Proc.devRef .tc main_v3)) (V (Proc.devRef .tc main_v4_2))) := by
  simp only [hostOps1]
  after_results_simp
  all_goals rfl

set_option maxRecDepth 8192 in
set_option maxHeartbeats 2000000 in
/-- Whether that sum is positive. -/
theorem stretch1_pos : after hostOps1 V (Proc.devRef .tc main_v21)
    = cmpf .ogt (addf (atEnd (V (Proc.devRef .tc main_v1)) (V (Proc.devRef .tc main_v4_1)))
        (atEnd (V (Proc.devRef .tc main_v3)) (V (Proc.devRef .tc main_v4_2)))) (broadcastInDim S320000 ![] bcast_S_S320000 (constant S_ .f32 0x00000000#32)) := by
  simp only [hostOps1]
  after_results_simp
  all_goals rfl

set_option maxRecDepth 8192 in
set_option maxHeartbeats 2000000 in
/-- That sum times the slope. -/
theorem stretch1_slope : after hostOps1 V (Proc.devRef .tc main_v23)
    = mulf (broadcastInDim S320000 ![] bcast_S_S320000 (constant S_ .f32 0x3E4CCCCD#32))
        (addf (atEnd (V (Proc.devRef .tc main_v1)) (V (Proc.devRef .tc main_v4_1)))
        (atEnd (V (Proc.devRef .tc main_v3)) (V (Proc.devRef .tc main_v4_2)))) := by
  simp only [hostOps1]
  after_results_simp
  all_goals rfl

set_option maxRecDepth 8192 in
set_option maxHeartbeats 2000000 in
/-- The choice between the two. -/
theorem stretch1_choice : after hostOps1_1 V (Proc.devRef .tc main_v24)
    = select (V (Proc.devRef .tc main_v21)) (V (Proc.devRef .tc main_v19)) (V (Proc.devRef .tc main_v23)) := by
  simp only [hostOps1_1, TRef.ternary, TRef.toBuf, TRef.ofBuf, cast_eq]
  after_results_simp
  all_goals rfl

set_option maxRecDepth 8192 in
set_option maxHeartbeats 2000000 in
/-- The weighted row sums. -/
theorem stretch1_rows : after hostOps1_2 V (Proc.devRef .tc main_v51)
    = rowSum (V (Proc.devRef .tc main_v1)) (V (Proc.devRef .tc main_v3))
        (weightPlain (V (Proc.devRef .tc main_v3)) (V (Proc.devRef .tc main_v24))) (V (Proc.devRef .tc main_v4_0)) := by
  simp only [hostOps1_2]
  after_results_simp
  all_goals rfl

/-! ## The second layer -/

set_option maxRecDepth 8192 in
set_option maxHeartbeats 2000000 in
/-- The sum of the scores at an edge's two ends. -/
theorem stretch2_sum : after hostOps2 V (Proc.devRef .tc main_v67)
    = addf (atEnd (V (Proc.devRef .tc main_v1)) (V (Proc.devRef .tc main_v52_1)))
        (atEnd (V (Proc.devRef .tc main_v3)) (V (Proc.devRef .tc main_v52_2))) := by
  simp only [hostOps2]
  after_results_simp
  all_goals rfl

set_option maxRecDepth 8192 in
set_option maxHeartbeats 2000000 in
/-- Whether that sum is positive. -/
theorem stretch2_pos : after hostOps2 V (Proc.devRef .tc main_v69)
    = cmpf .ogt (addf (atEnd (V (Proc.devRef .tc main_v1)) (V (Proc.devRef .tc main_v52_1)))
        (atEnd (V (Proc.devRef .tc main_v3)) (V (Proc.devRef .tc main_v52_2)))) (broadcastInDim S320000 ![] bcast_S_S320000 (constant S_ .f32 0x00000000#32)) := by
  simp only [hostOps2]
  after_results_simp
  all_goals rfl

set_option maxRecDepth 8192 in
set_option maxHeartbeats 2000000 in
/-- That sum times the slope. -/
theorem stretch2_slope : after hostOps2 V (Proc.devRef .tc main_v71)
    = mulf (broadcastInDim S320000 ![] bcast_S_S320000 (constant S_ .f32 0x3E4CCCCD#32))
        (addf (atEnd (V (Proc.devRef .tc main_v1)) (V (Proc.devRef .tc main_v52_1)))
        (atEnd (V (Proc.devRef .tc main_v3)) (V (Proc.devRef .tc main_v52_2)))) := by
  simp only [hostOps2]
  after_results_simp
  all_goals rfl

set_option maxRecDepth 8192 in
set_option maxHeartbeats 2000000 in
/-- The choice between the two. -/
theorem stretch2_choice : after hostOps2_1 V (Proc.devRef .tc main_v72)
    = select (V (Proc.devRef .tc main_v69)) (V (Proc.devRef .tc main_v67)) (V (Proc.devRef .tc main_v71)) := by
  simp only [hostOps2_1, TRef.ternary, TRef.toBuf, TRef.ofBuf, cast_eq]
  after_results_simp
  all_goals rfl

set_option maxRecDepth 8192 in
set_option maxHeartbeats 2000000 in
/-- The weighted row sums. -/
theorem stretch2_rows : after hostOps2_2 V (Proc.devRef .tc main_v99)
    = rowSum (V (Proc.devRef .tc main_v1)) (V (Proc.devRef .tc main_v3))
        (weightPlain (V (Proc.devRef .tc main_v3)) (V (Proc.devRef .tc main_v72))) (V (Proc.devRef .tc main_v52_0)) := by
  simp only [hostOps2_2]
  after_results_simp
  all_goals rfl

end Cert.Gat
-- ==== Proof.KernelValue.lean ====
/- The idealized kernel's result array as a term of its arguments: the generated fold of buffer contents read from the
   launch to the last region. -/
module

public import proofs.«01_k».proof.Proof.Regions
public import proofs.«01_k».proof.Proof.Stretch

@[expose] public section

noncomputable section

namespace Cert.Gat

open Cert.KernelIdeal Cert.KernelIdeal.Gen
open Idealize.ShloMosaic Idealize.ShloMosaic.TcCoe Idealize.SL.Sem

/-- A layer's weighted row sums with the plain weights, from the edge list, the projected features and the two vectors. -/
def sums (e : IVec S2x320000 32) (xp : FVec Ideal S10000x128 .f32) (a b : FVec Ideal S128 .f32) : FVec Ideal S10000x128 .f32 :=
  rowSum (sources e) (targets e)
    (weightPlain (targets e) (score (sources e) (targets e) (along xp a) (along xp b))) xp

variable (m : (ℓ : Loc nD τ sig) → Buf (Elt Ideal) ℓ) (ρ : Dev nD → PrngReg) (c : Dev nD)

/-- The second layer's projected features. -/
def middle : FVec Ideal S10000x128 .f32 :=
  times (unit (sums (m ((c : Thread nD τ).loc main_arg1)) (times (m ((c : Thread nD τ).loc main_arg0)) (m ((c : Thread nD τ).loc main_arg2)))
      (m ((c : Thread nD τ).loc main_arg3)) (m ((c : Thread nD τ).loc main_arg4)))
    (m ((c : Thread nD τ).loc main_arg5)) (m ((c : Thread nD τ).loc main_arg6)) (m ((c : Thread nD τ).loc main_arg7)))
    (m ((c : Thread nD τ).loc main_arg8))

/-- The sources at the first region. -/
theorem src1 : W1 m ρ c (Proc.devRef .tc main_v1) = sources (m ((c : Thread nD τ).loc main_arg1)) := stretch0_src _

/-- The sources at boundary 2. -/
theorem src2 : W2 m ρ c (Proc.devRef .tc main_v1) = sources (m ((c : Thread nD τ).loc main_arg1)) :=
  (W2_of m ρ c main_v1 (by decide +kernel)).trans (src1 m ρ c)

/-- The sources at boundary 3. -/
theorem src3 : W3 m ρ c (Proc.devRef .tc main_v1) = sources (m ((c : Thread nD τ).loc main_arg1)) :=
  (W3_of m ρ c main_v1 (by decide +kernel)).trans (src2 m ρ c)

/-- The sources at boundary 4. -/
theorem src4 : W4 m ρ c (Proc.devRef .tc main_v1) = sources (m ((c : Thread nD τ).loc main_arg1)) :=
  (W4_of m ρ c main_v1 (by decide +kernel)).trans (src3 m ρ c)

/-- The sources at boundary 5. -/
theorem src5 : W5 m ρ c (Proc.devRef .tc main_v1) = sources (m ((c : Thread nD τ).loc main_arg1)) :=
  (W5_of m ρ c main_v1 (by decide +kernel)).trans (src4 m ρ c)

/-- The sources at boundary 6. -/
theorem src6 : W6 m ρ c (Proc.devRef .tc main_v1) = sources (m ((c : Thread nD τ).loc main_arg1)) :=
  (W6_of m ρ c main_v1 (by decide +kernel)).trans (src5 m ρ c)

/-- The sources at boundary 7. -/
theorem src7 : W7 m ρ c (Proc.devRef .tc main_v1) = sources (m ((c : Thread nD τ).loc main_arg1)) :=
  (W7_of m ρ c main_v1 (by decide +kernel)).trans (src6 m ρ c)

/-- The sources at boundary 8. -/
theorem src8 : W8 m ρ c (Proc.devRef .tc main_v1) = sources (m ((c : Thread nD τ).loc main_arg1)) :=
  (W8_of m ρ c main_v1 (by decide +kernel)).trans (src7 m ρ c)

/-- The targets at the first region. -/
theorem dst1 : W1 m ρ c (Proc.devRef .tc main_v3) = targets (m ((c : Thread nD τ).loc main_arg1)) := stretch0_dst _

/-- The targets at boundary 2. -/
theorem dst2 : W2 m ρ c (Proc.devRef .tc main_v3) = targets (m ((c : Thread nD τ).loc main_arg1)) :=
  (W2_of m ρ c main_v3 (by decide +kernel)).trans (dst1 m ρ c)

/-- The targets at boundary 3. -/
theorem dst3 : W3 m ρ c (Proc.devRef .tc main_v3) = targets (m ((c : Thread nD τ).loc main_arg1)) :=
  (W3_of m ρ c main_v3 (by decide +kernel)).trans (dst2 m ρ c)

/-- The targets at boundary 4. -/
theorem dst4 : W4 m ρ c (Proc.devRef .tc main_v3) = targets (m ((c : Thread nD τ).loc main_arg1)) :=
  (W4_of m ρ c main_v3 (by decide +kernel)).trans (dst3 m ρ c)

/-- The targets at boundary 5. -/
theorem dst5 : W5 m ρ c (Proc.devRef .tc main_v3) = targets (m ((c : Thread nD τ).loc main_arg1)) :=
  (W5_of m ρ c main_v3 (by decide +kernel)).trans (dst4 m ρ c)

/-- The targets at boundary 6. -/
theorem dst6 : W6 m ρ c (Proc.devRef .tc main_v3) = targets (m ((c : Thread nD τ).loc main_arg1)) :=
  (W6_of m ρ c main_v3 (by decide +kernel)).trans (dst5 m ρ c)

/-- The targets at boundary 7. -/
theorem dst7 : W7 m ρ c (Proc.devRef .tc main_v3) = targets (m ((c : Thread nD τ).loc main_arg1)) :=
  (W7_of m ρ c main_v3 (by decide +kernel)).trans (dst6 m ρ c)

/-- The targets at boundary 8. -/
theorem dst8 : W8 m ρ c (Proc.devRef .tc main_v3) = targets (m ((c : Thread nD τ).loc main_arg1)) :=
  (W8_of m ρ c main_v3 (by decide +kernel)).trans (dst7 m ρ c)

/-- The first region's output 0, at its exit. -/
theorem xp2 : W2 m ρ c (Proc.devRef .tc main_v4_0) = times (m ((c : Thread nD τ).loc main_arg0)) (m ((c : Thread nD τ).loc main_arg2)) := by
  refine (W2_arr m ρ c 4).trans ((region0_4 (V1 m ρ) c).trans ?_)
  rw [show V1 m ρ c main_arg0 = _ from W1_args m ρ c main_arg0 (by decide +kernel),
    show V1 m ρ c main_arg2 = _ from W1_args m ρ c main_arg2 (by decide +kernel)]

/-- The first region's output 1, at its exit. -/
theorem sc2 : W2 m ρ c (Proc.devRef .tc main_v4_1) = along (times (m ((c : Thread nD τ).loc main_arg0)) (m ((c : Thread nD τ).loc main_arg2))) (m ((c : Thread nD τ).loc main_arg3)) := by
  refine (W2_arr m ρ c 5).trans ((region0_5 (V1 m ρ) c).trans ?_)
  rw [show V1 m ρ c main_arg0 = _ from W1_args m ρ c main_arg0 (by decide +kernel),
    show V1 m ρ c main_arg2 = _ from W1_args m ρ c main_arg2 (by decide +kernel),
    show V1 m ρ c main_arg3 = _ from W1_args m ρ c main_arg3 (by decide +kernel)]

/-- The first region's output 2, at its exit. -/
theorem dc2 : W2 m ρ c (Proc.devRef .tc main_v4_2) = along (times (m ((c : Thread nD τ).loc main_arg0)) (m ((c : Thread nD τ).loc main_arg2))) (m ((c : Thread nD τ).loc main_arg4)) := by
  refine (W2_arr m ρ c 6).trans ((region0_6 (V1 m ρ) c).trans ?_)
  rw [show V1 m ρ c main_arg0 = _ from W1_args m ρ c main_arg0 (by decide +kernel),
    show V1 m ρ c main_arg2 = _ from W1_args m ρ c main_arg2 (by decide +kernel),
    show V1 m ρ c main_arg4 = _ from W1_args m ρ c main_arg4 (by decide +kernel)]

/-- Layer 1: sum. -/
theorem sum3 : W3 m ρ c (Proc.devRef .tc main_v19)
    = addf (atEnd (sources (m ((c : Thread nD τ).loc main_arg1))) (along (times (m ((c : Thread nD τ).loc main_arg0)) (m ((c : Thread nD τ).loc main_arg2))) (m ((c : Thread nD τ).loc main_arg3)))) (atEnd (targets (m ((c : Thread nD τ).loc main_arg1))) (along (times (m ((c : Thread nD τ).loc main_arg0)) (m ((c : Thread nD τ).loc main_arg2))) (m ((c : Thread nD τ).loc main_arg4)))) := by
  refine (stretch1_sum _).trans ?_
  rw [src2, dst2, sc2, dc2]

/-- Layer 1: pos. -/
theorem pos3 : W3 m ρ c (Proc.devRef .tc main_v21)
    = cmpf .ogt (addf (atEnd (sources (m ((c : Thread nD τ).loc main_arg1))) (along (times (m ((c : Thread nD τ).loc main_arg0)) (m ((c : Thread nD τ).loc main_arg2))) (m ((c : Thread nD τ).loc main_arg3)))) (atEnd (targets (m ((c : Thread nD τ).loc main_arg1))) (along (times (m ((c : Thread nD τ).loc main_arg0)) (m ((c : Thread nD τ).loc main_arg2))) (m ((c : Thread nD τ).loc main_arg4))))) (broadcastInDim S320000 ![] bcast_S_S320000 (constant S_ .f32 0x00000000#32)) := by
  refine (stretch1_pos _).trans ?_
  rw [src2, dst2, sc2, dc2]

/-- Layer 1: slope. -/
theorem slope3 : W3 m ρ c (Proc.devRef .tc main_v23)
    = mulf (broadcastInDim S320000 ![] bcast_S_S320000 (constant S_ .f32 0x3E4CCCCD#32)) (addf (atEnd (sources (m ((c : Thread nD τ).loc main_arg1))) (along (times (m ((c : Thread nD τ).loc main_arg0)) (m ((c : Thread nD τ).loc main_arg2))) (m ((c : Thread nD τ).loc main_arg3)))) (atEnd (targets (m ((c : Thread nD τ).loc main_arg1))) (along (times (m ((c : Thread nD τ).loc main_arg0)) (m ((c : Thread nD τ).loc main_arg2))) (m ((c : Thread nD τ).loc main_arg4))))) := by
  refine (stretch1_slope _).trans ?_
  rw [src2, dst2, sc2, dc2]

/-- Layer 1: the scores. -/
theorem score4 : W4 m ρ c (Proc.devRef .tc main_v24)
    = score (sources (m ((c : Thread nD τ).loc main_arg1))) (targets (m ((c : Thread nD τ).loc main_arg1))) (along (times (m ((c : Thread nD τ).loc main_arg0)) (m ((c : Thread nD τ).loc main_arg2))) (m ((c : Thread nD τ).loc main_arg3))) (along (times (m ((c : Thread nD τ).loc main_arg0)) (m ((c : Thread nD τ).loc main_arg2))) (m ((c : Thread nD τ).loc main_arg4))) := by
  refine (stretch1_choice _).trans ?_
  rw [sum3, pos3, slope3]
  rfl

/-- Layer 1: the projected features before the row sums. -/
theorem xp4 : W4 m ρ c (Proc.devRef .tc main_v4_0) = (times (m ((c : Thread nD τ).loc main_arg0)) (m ((c : Thread nD τ).loc main_arg2))) :=
  (W4_of m ρ c main_v4_0 (by decide +kernel)).trans ((W3_of m ρ c main_v4_0 (by decide +kernel)).trans (xp2 m ρ c))

/-- Layer 1: the weighted row sums. -/
theorem rows5 : W5 m ρ c (Proc.devRef .tc main_v51) = sums (m ((c : Thread nD τ).loc main_arg1)) (times (m ((c : Thread nD τ).loc main_arg0)) (m ((c : Thread nD τ).loc main_arg2))) (m ((c : Thread nD τ).loc main_arg3)) (m ((c : Thread nD τ).loc main_arg4)) := by
  refine (stretch1_rows _).trans ?_
  rw [src4, dst4, score4, xp4]
  rfl

/-- The second region's output 0, at its exit. -/
theorem xp6 : W6 m ρ c (Proc.devRef .tc main_v52_0) = middle m c := by
  refine (W6_arr m ρ c 7).trans ((region1_7 (V5 m ρ) c).trans ?_)
  rw [show V5 m ρ c main_v51 = _ from rows5 m ρ c,
    show V5 m ρ c main_arg5 = _ from W5_args m ρ c main_arg5 (by decide +kernel),
    show V5 m ρ c main_arg6 = _ from W5_args m ρ c main_arg6 (by decide +kernel),
    show V5 m ρ c main_arg7 = _ from W5_args m ρ c main_arg7 (by decide +kernel),
    show V5 m ρ c main_arg8 = _ from W5_args m ρ c main_arg8 (by decide +kernel)]
  rfl

/-- The second region's output 1, at its exit. -/
theorem sc6 : W6 m ρ c (Proc.devRef .tc main_v52_1) = along (middle m c) (m ((c : Thread nD τ).loc main_arg9)) := by
  refine (W6_arr m ρ c 8).trans ((region1_8 (V5 m ρ) c).trans ?_)
  rw [show V5 m ρ c main_v51 = _ from rows5 m ρ c,
    show V5 m ρ c main_arg5 = _ from W5_args m ρ c main_arg5 (by decide +kernel),
    show V5 m ρ c main_arg6 = _ from W5_args m ρ c main_arg6 (by decide +kernel),
    show V5 m ρ c main_arg7 = _ from W5_args m ρ c main_arg7 (by decide +kernel),
    show V5 m ρ c main_arg8 = _ from W5_args m ρ c main_arg8 (by decide +kernel),
    show V5 m ρ c main_arg9 = _ from W5_args m ρ c main_arg9 (by decide +kernel)]
  rfl

/-- The second region's output 2, at its exit. -/
theorem dc6 : W6 m ρ c (Proc.devRef .tc main_v52_2) = along (middle m c) (m ((c : Thread nD τ).loc main_arg10)) := by
  refine (W6_arr m ρ c 9).trans ((region1_9 (V5 m ρ) c).trans ?_)
  rw [show V5 m ρ c main_v51 = _ from rows5 m ρ c,
    show V5 m ρ c main_arg5 = _ from W5_args m ρ c main_arg5 (by decide +kernel),
    show V5 m ρ c main_arg6 = _ from W5_args m ρ c main_arg6 (by decide +kernel),
    show V5 m ρ c main_arg7 = _ from W5_args m ρ c main_arg7 (by decide +kernel),
    show V5 m ρ c main_arg8 = _ from W5_args m ρ c main_arg8 (by decide +kernel),
    show V5 m ρ c main_arg10 = _ from W5_args m ρ c main_arg10 (by decide +kernel)]
  rfl

/-- Layer 2: sum. -/
theorem sum7 : W7 m ρ c (Proc.devRef .tc main_v67)
    = addf (atEnd (sources (m ((c : Thread nD τ).loc main_arg1))) (along (middle m c) (m ((c : Thread nD τ).loc main_arg9)))) (atEnd (targets (m ((c : Thread nD τ).loc main_arg1))) (along (middle m c) (m ((c : Thread nD τ).loc main_arg10)))) := by
  refine (stretch2_sum _).trans ?_
  rw [src6, dst6, sc6, dc6]

/-- Layer 2: pos. -/
theorem pos7 : W7 m ρ c (Proc.devRef .tc main_v69)
    = cmpf .ogt (addf (atEnd (sources (m ((c : Thread nD τ).loc main_arg1))) (along (middle m c) (m ((c : Thread nD τ).loc main_arg9)))) (atEnd (targets (m ((c : Thread nD τ).loc main_arg1))) (along (middle m c) (m ((c : Thread nD τ).loc main_arg10))))) (broadcastInDim S320000 ![] bcast_S_S320000 (constant S_ .f32 0x00000000#32)) := by
  refine (stretch2_pos _).trans ?_
  rw [src6, dst6, sc6, dc6]

/-- Layer 2: slope. -/
theorem slope7 : W7 m ρ c (Proc.devRef .tc main_v71)
    = mulf (broadcastInDim S320000 ![] bcast_S_S320000 (constant S_ .f32 0x3E4CCCCD#32)) (addf (atEnd (sources (m ((c : Thread nD τ).loc main_arg1))) (along (middle m c) (m ((c : Thread nD τ).loc main_arg9)))) (atEnd (targets (m ((c : Thread nD τ).loc main_arg1))) (along (middle m c) (m ((c : Thread nD τ).loc main_arg10))))) := by
  refine (stretch2_slope _).trans ?_
  rw [src6, dst6, sc6, dc6]

/-- Layer 2: the scores. -/
theorem score8 : W8 m ρ c (Proc.devRef .tc main_v72)
    = score (sources (m ((c : Thread nD τ).loc main_arg1))) (targets (m ((c : Thread nD τ).loc main_arg1))) (along (middle m c) (m ((c : Thread nD τ).loc main_arg9))) (along (middle m c) (m ((c : Thread nD τ).loc main_arg10))) := by
  refine (stretch2_choice _).trans ?_
  rw [sum7, pos7, slope7]
  rfl

/-- Layer 2: the projected features before the row sums. -/
theorem xp8 : W8 m ρ c (Proc.devRef .tc main_v52_0) = (middle m c) :=
  (W8_of m ρ c main_v52_0 (by decide +kernel)).trans ((W7_of m ρ c main_v52_0 (by decide +kernel)).trans (xp6 m ρ c))

/-- Layer 2: the weighted row sums. -/
theorem rows9 : W9 m ρ c (Proc.devRef .tc main_v99) = sums (m ((c : Thread nD τ).loc main_arg1)) (middle m c) (m ((c : Thread nD τ).loc main_arg9)) (m ((c : Thread nD τ).loc main_arg10)) := by
  refine (stretch2_rows _).trans ?_
  rw [src8, dst8, score8, xp8]
  rfl

/-- The kernel's result from its arguments. -/
def result : FVec Ideal S10000x128 .f32 :=
  addf (times (unit (sums (m ((c : Thread nD τ).loc main_arg1)) (middle m c) (m ((c : Thread nD τ).loc main_arg9)) (m ((c : Thread nD τ).loc main_arg10)))
    (m ((c : Thread nD τ).loc main_arg11)) (m ((c : Thread nD τ).loc main_arg12)) (m ((c : Thread nD τ).loc main_arg13))) (m ((c : Thread nD τ).loc main_arg14)))
    (everyRow (m ((c : Thread nD τ).loc main_arg15)))

/-- What the last boundary says of the result array. -/
theorem result10 : W10 m ρ c (Proc.devRef .tc main_v100) = result m c := by
  refine (W10_arr m ρ c 6).trans ((region2_6 (V9 m ρ) c).trans ?_)
  rw [show V9 m ρ c main_v99 = _ from rows9 m ρ c,
    show V9 m ρ c main_arg11 = _ from W9_args m ρ c main_arg11 (by decide +kernel),
    show V9 m ρ c main_arg12 = _ from W9_args m ρ c main_arg12 (by decide +kernel),
    show V9 m ρ c main_arg13 = _ from W9_args m ρ c main_arg13 (by decide +kernel),
    show V9 m ρ c main_arg14 = _ from W9_args m ρ c main_arg14 (by decide +kernel),
    show V9 m ρ c main_arg15 = _ from W9_args m ρ c main_arg15 (by decide +kernel)]
  rfl

end Cert.Gat
-- ==== Proof.RefValue.lean ====
/- The idealized reference's result array as a term of its arguments, brought to the plain weights. -/
module

public import proofs.«01_k».proof.Proof.KernelValue
public import proofs.«01_k».proof.Proof.Gen.ReferenceIdeal.Run

@[expose] public section

noncomputable section

namespace Cert.Gat

open Cert.ReferenceIdeal Cert.ReferenceIdeal.Gen Cert.ReferenceIdeal.Value
open Idealize.ShloMosaic Idealize.ShloMosaic.TcCoe Idealize.SL.Sem Idealize.ShloMosaic.StableHlo

/-- A layer's weighted row sums with weights shifted by any finite number per node are those with the plain weights. -/
theorem sums_eq (e : IVec S2x320000 32) (xp : FVec Ideal S10000x128 .f32) (a b : FVec Ideal S128 .f32)
    {mx : FVec Ideal S10000 .f32} (hm : Finite mx) :
    rowSum (sources e) (targets e)
      (weightShifted (targets e) mx (score (sources e) (targets e) (along xp a) (along xp b))) xp = sums e xp a b :=
  (rowSum_weight _ _ hm _ _).symm

variable (V0 : Valuation τ sig (Elt Ideal))

/-- The reference's first projected features. -/
theorem ref_xp1 : res_main_v0 (F := Ideal) V0 = times (V0 (Proc.devRef .tc main_arg0)) (V0 (Proc.devRef .tc main_arg2)) := rfl

/-! ## The first layer -/

/-- The first layer's scores. -/
theorem one_score : res_main_v26 (F := Ideal) V0 = score (sources (V0 (Proc.devRef .tc main_arg1))) (targets (V0 (Proc.devRef .tc main_arg1)))
    (along (res_main_v0 V0) (V0 (Proc.devRef .tc main_arg3))) (along (res_main_v0 V0) (V0 (Proc.devRef .tc main_arg4))) := rfl

/-- The first layer's shift is a real number at every node. -/
theorem one_finite : Finite (res_main_v41 (F := Ideal) V0) := finite_guarded (res_main_v35 V0)

/-- The first layer's sums before the bias, with the shift. -/
theorem one_rows : res_main_v89 (F := Ideal) V0 = addf (rowSum (sources (V0 (Proc.devRef .tc main_arg1))) (targets (V0 (Proc.devRef .tc main_arg1)))
    (weightShifted (targets (V0 (Proc.devRef .tc main_arg1))) (res_main_v41 V0) (res_main_v26 V0)) (res_main_v0 V0)) (everyRow (V0 (Proc.devRef .tc main_arg5))) := rfl

/-- The first layer's sums before the bias, without the shift. -/
theorem one_sums : res_main_v89 (F := Ideal) V0
    = addf (sums (V0 (Proc.devRef .tc main_arg1)) (res_main_v0 V0) (V0 (Proc.devRef .tc main_arg3)) (V0 (Proc.devRef .tc main_arg4))) (everyRow (V0 (Proc.devRef .tc main_arg5))) := by
  rw [one_rows, one_score, sums_eq _ _ _ _ (one_finite V0)]

/-- The first layer's normalised array. -/
theorem one_normal : res_main_v108 (F := Ideal) V0 = normal (res_main_v89 V0) (V0 (Proc.devRef .tc main_arg6)) (V0 (Proc.devRef .tc main_arg7)) := rfl

/-- The reference's second projected features. -/
theorem ref_xp2 : res_main_v114 (F := Ideal) V0 = times (unit (sums (V0 (Proc.devRef .tc main_arg1)) (times (V0 (Proc.devRef .tc main_arg0)) (V0 (Proc.devRef .tc main_arg2))) (V0 (Proc.devRef .tc main_arg3)) (V0 (Proc.devRef .tc main_arg4)))
    (V0 (Proc.devRef .tc main_arg5)) (V0 (Proc.devRef .tc main_arg6)) (V0 (Proc.devRef .tc main_arg7))) (V0 (Proc.devRef .tc main_arg8)) := by
  have h : res_main_v114 (F := Ideal) V0 = times (leaky (res_main_v108 V0)) (V0 (Proc.devRef .tc main_arg8)) := rfl
  rw [h, one_normal, one_sums, ref_xp1]
  rfl

/-! ## The second layer -/

/-- The second layer's scores. -/
theorem two_score : res_main_v140 (F := Ideal) V0 = score (sources (V0 (Proc.devRef .tc main_arg1))) (targets (V0 (Proc.devRef .tc main_arg1)))
    (along (res_main_v114 V0) (V0 (Proc.devRef .tc main_arg9))) (along (res_main_v114 V0) (V0 (Proc.devRef .tc main_arg10))) := rfl

/-- The second layer's shift is a real number at every node. -/
theorem two_finite : Finite (res_main_v155 (F := Ideal) V0) := finite_guarded (res_main_v149 V0)

/-- The second layer's sums before the bias, with the shift. -/
theorem two_rows : res_main_v203 (F := Ideal) V0 = addf (rowSum (sources (V0 (Proc.devRef .tc main_arg1))) (targets (V0 (Proc.devRef .tc main_arg1)))
    (weightShifted (targets (V0 (Proc.devRef .tc main_arg1))) (res_main_v155 V0) (res_main_v140 V0)) (res_main_v114 V0)) (everyRow (V0 (Proc.devRef .tc main_arg11))) := rfl

/-- The second layer's sums before the bias, without the shift. -/
theorem two_sums : res_main_v203 (F := Ideal) V0
    = addf (sums (V0 (Proc.devRef .tc main_arg1)) (res_main_v114 V0) (V0 (Proc.devRef .tc main_arg9)) (V0 (Proc.devRef .tc main_arg10))) (everyRow (V0 (Proc.devRef .tc main_arg11))) := by
  rw [two_rows, two_score, sums_eq _ _ _ _ (two_finite V0)]

/-- The second layer's normalised array. -/
theorem two_normal : res_main_v222 (F := Ideal) V0 = normal (res_main_v203 V0) (V0 (Proc.devRef .tc main_arg12)) (V0 (Proc.devRef .tc main_arg13)) := rfl

/-- The reference's result. -/
theorem ref_result (y : FVec Ideal S10000x128 .f32) (hy : y = addf (times (leaky (res_main_v222 V0)) (V0 (Proc.devRef .tc main_arg14))) (everyRow (V0 (Proc.devRef .tc main_arg15)))) :
    y = addf (times (unit (sums (V0 (Proc.devRef .tc main_arg1)) (times (unit (sums (V0 (Proc.devRef .tc main_arg1)) (times (V0 (Proc.devRef .tc main_arg0)) (V0 (Proc.devRef .tc main_arg2))) (V0 (Proc.devRef .tc main_arg3)) (V0 (Proc.devRef .tc main_arg4)))
      (V0 (Proc.devRef .tc main_arg5)) (V0 (Proc.devRef .tc main_arg6)) (V0 (Proc.devRef .tc main_arg7))) (V0 (Proc.devRef .tc main_arg8))) (V0 (Proc.devRef .tc main_arg9)) (V0 (Proc.devRef .tc main_arg10)))
      (V0 (Proc.devRef .tc main_arg11)) (V0 (Proc.devRef .tc main_arg12)) (V0 (Proc.devRef .tc main_arg13))) (V0 (Proc.devRef .tc main_arg14))) (everyRow (V0 (Proc.devRef .tc main_arg15))) := by
  rw [hy, two_normal, two_sums, ref_xp2]
  rfl

end Cert.Gat
-- ==== Proof.lean ====
/- The claims about the two-layer graph attention kernel: the three frames, that the idealization rewrote nothing, and the
   equality over the extended reals of the kernel's result array and the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference declares no semaphore, so any two states of its counters are equal. -/
theorem counters (f g : GSem Cert.ReferenceIdeal.nD Cert.ReferenceIdeal.τ Cert.ReferenceIdeal.sig → Int) : f = g := by
  funext s
  obtain ⟨_, sm⟩ := s
  cases sm with
  | reg k => exact k.elim0
  | dma k => exact k.elim0

/-- The kernel ends, its arguments unchanged and its counters at zero. -/
theorem frame_kernel : Cert.quiescent_Kernel := fun m g _ => Cert.Kernel.Gen.frame m g

/-- The idealized kernel ends, its arguments unchanged and its counters at zero. -/
theorem frame_kernelIdeal : Cert.quiescent_KernelIdeal := fun m g _ => Cert.KernelIdeal.Gen.frame m g

/-- The idealized reference ends, its arguments unchanged and its counters at zero. -/
theorem frame_referenceIdeal : Cert.quiescent_ReferenceIdeal := fun m g _ =>
  θ_run_mono (Cert.ReferenceIdeal.Value.run m g) fun _ h => ⟨fun c => (h c).2, counters _ _⟩

/-- The idealization rewrote nothing. -/
theorem preserves : Cert.preserves_Kernel_KernelIdeal := trivial

/-- The result as a function of the sixteen arguments. -/
def spec (a0 : FVec Ideal Cert.KernelIdeal.S10000x128 .f32) (a1 : IVec Cert.KernelIdeal.S2x320000 32)
    (a2 : FVec Ideal Cert.KernelIdeal.S128x128 .f32) (a3 : FVec Ideal Cert.KernelIdeal.S128 .f32)
    (a4 : FVec Ideal Cert.KernelIdeal.S128 .f32) (a5 : FVec Ideal Cert.KernelIdeal.S128 .f32) (a6 : FVec Ideal Cert.KernelIdeal.S128 .f32)
    (a7 : FVec Ideal Cert.KernelIdeal.S128 .f32) (a8 : FVec Ideal Cert.KernelIdeal.S128x128 .f32)
    (a9 : FVec Ideal Cert.KernelIdeal.S128 .f32) (a10 : FVec Ideal Cert.KernelIdeal.S128 .f32) (a11 : FVec Ideal Cert.KernelIdeal.S128 .f32)
    (a12 : FVec Ideal Cert.KernelIdeal.S128 .f32) (a13 : FVec Ideal Cert.KernelIdeal.S128 .f32)
    (a14 : FVec Ideal Cert.KernelIdeal.S128x128 .f32) (a15 : FVec Ideal Cert.KernelIdeal.S128 .f32) :
    FVec Ideal Cert.KernelIdeal.S10000x128 .f32 :=
  addf (Cert.Gat.times (Cert.Gat.unit (Cert.Gat.sums a1 (Cert.Gat.times (Cert.Gat.unit (Cert.Gat.sums a1 (Cert.Gat.times a0 a2) a3 a4)
    a5 a6 a7) a8) a9 a10) a11 a12 a13) a14) (Cert.Gat.everyRow a15)

/-- Equal arguments give equal results. -/
theorem spec_congr {a0 : FVec Ideal Cert.KernelIdeal.S10000x128 .f32} {a1 : IVec Cert.KernelIdeal.S2x320000 32}
    {a2 : FVec Ideal Cert.KernelIdeal.S128x128 .f32} {a3 : FVec Ideal Cert.KernelIdeal.S128 .f32}
    {a4 : FVec Ideal Cert.KernelIdeal.S128 .f32} {a5 : FVec Ideal Cert.KernelIdeal.S128 .f32} {a6 : FVec Ideal Cert.KernelIdeal.S128 .f32}
    {a7 : FVec Ideal Cert.KernelIdeal.S128 .f32} {a8 : FVec Ideal Cert.KernelIdeal.S128x128 .f32}
    {a9 : FVec Ideal Cert.KernelIdeal.S128 .f32} {a10 : FVec Ideal Cert.KernelIdeal.S128 .f32} {a11 : FVec Ideal Cert.KernelIdeal.S128 .f32}
    {a12 : FVec Ideal Cert.KernelIdeal.S128 .f32} {a13 : FVec Ideal Cert.KernelIdeal.S128 .f32}
    {a14 : FVec Ideal Cert.KernelIdeal.S128x128 .f32} {a15 : FVec Ideal Cert.KernelIdeal.S128 .f32}
    {b0 : FVec Ideal Cert.KernelIdeal.S10000x128 .f32} {b1 : IVec Cert.KernelIdeal.S2x320000 32}
    {b2 : FVec Ideal Cert.KernelIdeal.S128x128 .f32} {b3 : FVec Ideal Cert.KernelIdeal.S128 .f32}
    {b4 : FVec Ideal Cert.KernelIdeal.S128 .f32} {b5 : FVec Ideal Cert.KernelIdeal.S128 .f32} {b6 : FVec Ideal Cert.KernelIdeal.S128 .f32}
    {b7 : FVec Ideal Cert.KernelIdeal.S128 .f32} {b8 : FVec Ideal Cert.KernelIdeal.S128x128 .f32}
    {b9 : FVec Ideal Cert.KernelIdeal.S128 .f32} {b10 : FVec Ideal Cert.KernelIdeal.S128 .f32} {b11 : FVec Ideal Cert.KernelIdeal.S128 .f32}
    {b12 : FVec Ideal Cert.KernelIdeal.S128 .f32} {b13 : FVec Ideal Cert.KernelIdeal.S128 .f32}
    {b14 : FVec Ideal Cert.KernelIdeal.S128x128 .f32} {b15 : FVec Ideal Cert.KernelIdeal.S128 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    spec a0 a1 a2 a3 a4 a5 a6 a7 a8 a9 a10 a11 a12 a13 a14 a15
      = spec b0 b1 b2 b3 b4 b5 b6 b7 b8 b9 b10 b11 b12 b13 b14 b15 := by
  rw [h0, h1, h2, h3, h4, h5, h6, h7, h8, h9, h10, h11, h12, h13, h14, h15]

/-- Over the extended reals the kernel's result array and the reference's agree. -/
theorem algebraic : Cert.algebraic_KernelIdeal_ReferenceIdeal := by
  intro m g m' g' _ hagree
  refine ⟨fun c => Cert.Gat.result m c, ?_, ?_⟩
  · exact θ_run_mono (Cert.Gat.kernel_run m g) fun _ h c =>
      ⟨(h c).1.trans (Cert.Gat.result10 m g c), (h c).2⟩
  · refine θ_run_mono (Cert.ReferenceIdeal.Value.run m' g') fun _ h c => ⟨?_, (h c).2⟩
    refine (Cert.Gat.ref_result (StableHlo.launchContents m' c) _ (h c).1).trans ?_
    obtain ⟨h0, h1, h2, h3, h4, h5, h6, h7, h8, h9, h10, h11, h12, h13, h14, h15⟩ := hagree c
    exact spec_congr h0 h1 h2 h3 h4 h5 h6 h7 h8 h9 h10 h11 h12 h13 h14 h15

/-- Everything claimed. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
